-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S32x1024 : Shape := ⟨2, ![32, 1024]⟩
abbrev S256x128 : Shape := ⟨2, ![256, 128]⟩
abbrev S1024 : Shape := ⟨1, ![1024]⟩
abbrev S_ : Shape := ⟨0, ![]⟩
abbrev S16 : Shape := ⟨1, ![16]⟩
abbrev S1x256x128 : Shape := ⟨3, ![1, 256, 128]⟩
abbrev S1x16 : Shape := ⟨2, ![1, 16]⟩
abbrev S1x1024 : Shape := ⟨2, ![1, 1024]⟩
abbrev S4x8x8x128 : Shape := ⟨4, ![4, 8, 8, 128]⟩
abbrev S4x8x128x8 : Shape := ⟨4, ![4, 8, 128, 8]⟩
abbrev S4x8192 : Shape := ⟨2, ![4, 8192]⟩

abbrev nBuf : Table → Nat
  | .hbm => 5
  | .local .scVector .vmem => 3
  | _ => 0

abbrev bufTy : (tb : Table) → Fin (nBuf tb) → BufTy
  | .hbm, ⟨0, _⟩ => ⟨S4x8192x1024, .f32⟩
  | .hbm, ⟨1, _⟩ => ⟨S32x1024, .f32⟩
  | .hbm, ⟨2, _⟩ => ⟨S4x8x8x128, .f32⟩
  | .hbm, ⟨3, _⟩ => ⟨S4x8x128x8, .f32⟩
  | .hbm, ⟨4, _⟩ => ⟨S4x8192, .f32⟩
  | .local .scVector .vmem, ⟨0, _⟩ => ⟨S256x128, .f32⟩
  | .local .scVector .vmem, ⟨1, _⟩ => ⟨S256x128, .f32⟩
  | .local .scVector .vmem, ⟨2, _⟩ => ⟨S1024, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_10 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 0, v29.toNat]
@[reducible] def k0_t1_loop : Scf.Loop 32 :=
  let c0_i32_12 : BitVec 32 := 0#32
  let c16_i32 : BitVec 32 := 16#32
  let v35 : BitVec 32 := Scalar.addi c0_i32_12 c16_i32
  let c1_i32_13 : BitVec 32 := 1#32
  ⟨c0_i32_12, v35, c1_i32_13⟩
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_12 : BitVec 32 := 0#32
  let c1_i32_13 : BitVec 32 := 1#32
  let arg9 : BitVec 32 := Scf.iv c0_i32_12 c1_i32_13 k0_t1
  let c2_i32_15 : BitVec 32 := 2#32
  let v101 : BitVec 32 := Scalar.muli arg9 c2_i32_15
  let c1_i32_16 : BitVec 32 := 1#32
  let v102 : BitVec 32 := Scalar.addi v101 c1_i32_16
  let c256_i32 : BitVec 32 := 256#32
  let v103 : BitVec 32 := Scalar.muli v102 c256_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, v103.toNat, v29.toNat]
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_12 : BitVec 32 := 0#32
  let c1_i32_13 : BitVec 32 := 1#32
  let arg9 : BitVec 32 := Scf.iv c0_i32_12 c1_i32_13 k0_t1
  let c2_i32_15 : BitVec 32 := 2#32
  let v101 : BitVec 32 := Scalar.muli arg9 c2_i32_15
  let c256_i32_17 : BitVec 32 := 256#32
  let v108 : BitVec 32 := Scalar.muli v101 c256_i32_17
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, v108.toNat, v29.toNat]
@[reducible] def k0_t2_loop : Scf.Loop 32 :=
  let c0_i32_18 : BitVec 32 := 0#32
  let c32_i32 : BitVec 32 := 32#32
  let v113 : BitVec 32 := Scalar.addi c0_i32_18 c32_i32
  let c1_i32_19 : BitVec 32 := 1#32
  ⟨c0_i32_18, v113, c1_i32_19⟩
def k0_off4 (k0_t2 : Fin k0_t2_loop.trips) (c0_i32_55 : BitVec 32) : Fin 2 → Nat :=
  let c0_i32_18 : BitVec 32 := 0#32
  let c1_i32_19 : BitVec 32 := 1#32
  let arg74 : BitVec 32 := Scf.iv c0_i32_18 c1_i32_19 k0_t2
  let c8_i32_54 : BitVec 32 := 8#32
  let v139 : BitVec 32 := Scalar.muli arg74 c8_i32_54
  let v140 : BitVec 32 := Scalar.addi v139 c0_i32_55
  let v141 : Index := Scalar.indexCast v140
  let c0_56 : Index := 0#32
  ![v141.toNat, 0]
def k0_off5 (k0_t2 : Fin k0_t2_loop.trips) (c0_i32_66 : BitVec 32) : Fin 2 → Nat :=
  let c0_i32_18 : BitVec 32 := 0#32
  let c1_i32_19 : BitVec 32 := 1#32
  let arg74 : BitVec 32 := Scf.iv c0_i32_18 c1_i32_19 k0_t2
  let c8_i32_54 : BitVec 32 := 8#32
  let v139 : BitVec 32 := Scalar.muli arg74 c8_i32_54
  let v202 : BitVec 32 := Scalar.addi v139 c0_i32_66
  let v203 : Index := Scalar.indexCast v202
  let c16_67 : Index := 16#32
  ![v203.toNat, 16]
@[reducible] def k0_t3_loop : Scf.Loop 32 :=
  let c0_i32_21 : BitVec 32 := 0#32
  let c32_i32_22 : BitVec 32 := 32#32
  let v115 : BitVec 32 := Scalar.addi c0_i32_21 c32_i32_22
  let c1_i32_23 : BitVec 32 := 1#32
  ⟨c0_i32_21, v115, c1_i32_23⟩
def k0_off6 (k0_t3 : Fin k0_t3_loop.trips) (c0_i32_55 : BitVec 32) : Fin 2 → Nat :=
  let c0_i32_21 : BitVec 32 := 0#32
  let c1_i32_23 : BitVec 32 := 1#32
  let arg74 : BitVec 32 := Scf.iv c0_i32_21 c1_i32_23 k0_t3
  let c8_i32_54 : BitVec 32 := 8#32
  let v139 : BitVec 32 := Scalar.muli arg74 c8_i32_54
  let v140 : BitVec 32 := Scalar.addi v139 c0_i32_55
  let v141 : Index := Scalar.indexCast v140
  let c32_56 : Index := 32#32
  ![v141.toNat, 32]
def k0_off7 (k0_t3 : Fin k0_t3_loop.trips) (c0_i32_66 : BitVec 32) : Fin 2 → Nat :=
  let c0_i32_21 : BitVec 32 := 0#32
  let c1_i32_23 : BitVec 32 := 1#32
  let arg74 : BitVec 32 := Scf.iv c0_i32_21 c1_i32_23 k0_t3
  let c8_i32_54 : BitVec 32 := 8#32
  let v139 : BitVec 32 := Scalar.muli arg74 c8_i32_54
  let v202 : BitVec 32 := Scalar.addi v139 c0_i32_66
  let v203 : Index := Scalar.indexCast v202
  let c48_67 : Index := 48#32
  ![v203.toNat, 48]
@[reducible] def k0_t4_loop : Scf.Loop 32 :=
  let c0_i32_25 : BitVec 32 := 0#32
  let c32_i32_26 : BitVec 32 := 32#32
  let v117 : BitVec 32 := Scalar.addi c0_i32_25 c32_i32_26
  let c1_i32_27 : BitVec 32 := 1#32
  ⟨c0_i32_25, v117, c1_i32_27⟩
def k0_off8 (k0_t4 : Fin k0_t4_loop.trips) (c0_i32_55 : BitVec 32) : Fin 2 → Nat :=
  let c0_i32_25 : BitVec 32 := 0#32
  let c1_i32_27 : BitVec 32 := 1#32
  let arg74 : BitVec 32 := Scf.iv c0_i32_25 c1_i32_27 k0_t4
  let c8_i32_54 : BitVec 32 := 8#32
  let v139 : BitVec 32 := Scalar.muli arg74 c8_i32_54
  let v140 : BitVec 32 := Scalar.addi v139 c0_i32_55
  let v141 : Index := Scalar.indexCast v140
  let c64_56 : Index := 64#32
  ![v141.toNat, 64]
def k0_off9 (k0_t4 : Fin k0_t4_loop.trips) (c0_i32_66 : BitVec 32) : Fin 2 → Nat :=
  let c0_i32_25 : BitVec 32 := 0#32
  let c1_i32_27 : BitVec 32 := 1#32
  let arg74 : BitVec 32 := Scf.iv c0_i32_25 c1_i32_27 k0_t4
  let c8_i32_54 : BitVec 32 := 8#32
  let v139 : BitVec 32 := Scalar.muli arg74 c8_i32_54
  let v202 : BitVec 32 := Scalar.addi v139 c0_i32_66
  let v203 : Index := Scalar.indexCast v202
  let c80_67 : Index := 80#32
  ![v203.toNat, 80]
@[reducible] def k0_t5_loop : Scf.Loop 32 :=
  let c0_i32_29 : BitVec 32 := 0#32
  let c32_i32_30 : BitVec 32 := 32#32
  let v119 : BitVec 32 := Scalar.addi c0_i32_29 c32_i32_30
  let c1_i32_31 : BitVec 32 := 1#32
  ⟨c0_i32_29, v119, c1_i32_31⟩
def k0_off10 (k0_t5 : Fin k0_t5_loop.trips) (c0_i32_55 : BitVec 32) : Fin 2 → Nat :=
  let c0_i32_29 : BitVec 32 := 0#32
  let c1_i32_31 : BitVec 32 := 1#32
  let arg74 : BitVec 32 := Scf.iv c0_i32_29 c1_i32_31 k0_t5
  let c8_i32_54 : BitVec 32 := 8#32
  let v139 : BitVec 32 := Scalar.muli arg74 c8_i32_54
  let v140 : BitVec 32 := Scalar.addi v139 c0_i32_55
  let v141 : Index := Scalar.indexCast v140
  let c96_56 : Index := 96#32
  ![v141.toNat, 96]
def k0_off11 (k0_t5 : Fin k0_t5_loop.trips) (c0_i32_66 : BitVec 32) : Fin 2 → Nat :=
  let c0_i32_29 : BitVec 32 := 0#32
  let c1_i32_31 : BitVec 32 := 1#32
  let arg74 : BitVec 32 := Scf.iv c0_i32_29 c1_i32_31 k0_t5
  let c8_i32_54 : BitVec 32 := 8#32
  let v139 : BitVec 32 := Scalar.muli arg74 c8_i32_54
  let v202 : BitVec 32 := Scalar.addi v139 c0_i32_66
  let v203 : Index := Scalar.indexCast v202
  let c112_67 : Index := 112#32
  ![v203.toNat, 112]
def k0_cond1 (k0_t1 : Fin k0_t1_loop.trips) : BitVec 1 :=
  let c0_i32_12 : BitVec 32 := 0#32
  let c1_i32_13 : BitVec 32 := 1#32
  let arg9 : BitVec 32 := Scf.iv c0_i32_12 c1_i32_13 k0_t1
  let c1_i32_33 : BitVec 32 := 1#32
  let v121 : BitVec 32 := Scalar.addi arg9 c1_i32_33
  let c16_i32_34 : BitVec 32 := 16#32
  let v122 : BitVec 1 := Scalar.cmpi .slt v121 c16_i32_34
  let v123 : BitVec 32 := Scalar.extui v122
  let c0_i32_35 : BitVec 32 := 0#32
  let v124 : BitVec 1 := Scalar.cmpi .ne v123 c0_i32_35
  v124

def k0_off12 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_12 : BitVec 32 := 0#32
  let c1_i32_13 : BitVec 32 := 1#32
  let arg9 : BitVec 32 := Scf.iv c0_i32_12 c1_i32_13 k0_t1
  let c2_i32_15 : BitVec 32 := 2#32
  let v101 : BitVec 32 := Scalar.muli arg9 c2_i32_15
  let c2_i32_54 : BitVec 32 := 2#32
  let v139 : BitVec 32 := Scalar.addi v101 c2_i32_54
  let c256_i32_55 : BitVec 32 := 256#32
  let v140 : BitVec 32 := Scalar.muli v139 c256_i32_55
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, v140.toNat, v29.toNat]
@[reducible] def k0_t6_loop : Scf.Loop 32 :=
  let c0_i32_38 : BitVec 32 := 0#32
  let c32_i32_39 : BitVec 32 := 32#32
  let v131 : BitVec 32 := Scalar.addi c0_i32_38 c32_i32_39
  let c1_i32_40 : BitVec 32 := 1#32
  ⟨c0_i32_38, v131, c1_i32_40⟩
def k0_off13 (k0_t6 : Fin k0_t6_loop.trips) (c0_i32_55 : BitVec 32) : Fin 2 → Nat :=
  let c0_i32_38 : BitVec 32 := 0#32
  let c1_i32_40 : BitVec 32 := 1#32
  let arg74 : BitVec 32 := Scf.iv c0_i32_38 c1_i32_40 k0_t6
  let c8_i32_54 : BitVec 32 := 8#32
  let v139 : BitVec 32 := Scalar.muli arg74 c8_i32_54
  let v140 : BitVec 32 := Scalar.addi v139 c0_i32_55
  let v141 : Index := Scalar.indexCast v140
  let c0_56 : Index := 0#32
  ![v141.toNat, 0]
def k0_off14 (k0_t6 : Fin k0_t6_loop.trips) (c0_i32_66 : BitVec 32) : Fin 2 → Nat :=
  let c0_i32_38 : BitVec 32 := 0#32
  let c1_i32_40 : BitVec 32 := 1#32
  let arg74 : BitVec 32 := Scf.iv c0_i32_38 c1_i32_40 k0_t6
  let c8_i32_54 : BitVec 32 := 8#32
  let v139 : BitVec 32 := Scalar.muli arg74 c8_i32_54
  let v202 : BitVec 32 := Scalar.addi v139 c0_i32_66
  let v203 : Index := Scalar.indexCast v202
  let c16_67 : Index := 16#32
  ![v203.toNat, 16]
@[reducible] def k0_t7_loop : Scf.Loop 32 :=
  let c0_i32_42 : BitVec 32 := 0#32
  let c32_i32_43 : BitVec 32 := 32#32
  let v133 : BitVec 32 := Scalar.addi c0_i32_42 c32_i32_43
  let c1_i32_44 : BitVec 32 := 1#32
  ⟨c0_i32_42, v133, c1_i32_44⟩
def k0_off15 (k0_t7 : Fin k0_t7_loop.trips) (c0_i32_55 : BitVec 32) : Fin 2 → Nat :=
  let c0_i32_42 : BitVec 32 := 0#32
  let c1_i32_44 : BitVec 32 := 1#32
  let arg74 : BitVec 32 := Scf.iv c0_i32_42 c1_i32_44 k0_t7
  let c8_i32_54 : BitVec 32 := 8#32
  let v139 : BitVec 32 := Scalar.muli arg74 c8_i32_54
  let v140 : BitVec 32 := Scalar.addi v139 c0_i32_55
  let v141 : Index := Scalar.indexCast v140
  let c32_56 : Index := 32#32
  ![v141.toNat, 32]
def k0_off16 (k0_t7 : Fin k0_t7_loop.trips) (c0_i32_66 : BitVec 32) : Fin 2 → Nat :=
  let c0_i32_42 : BitVec 32 := 0#32
  let c1_i32_44 : BitVec 32 := 1#32
  let arg74 : BitVec 32 := Scf.iv c0_i32_42 c1_i32_44 k0_t7
  let c8_i32_54 : BitVec 32 := 8#32
  let v139 : BitVec 32 := Scalar.muli arg74 c8_i32_54
  let v202 : BitVec 32 := Scalar.addi v139 c0_i32_66
  let v203 : Index := Scalar.indexCast v202
  let c48_67 : Index := 48#32
  ![v203.toNat, 48]
@[reducible] def k0_t8_loop : Scf.Loop 32 :=
  let c0_i32_46 : BitVec 32 := 0#32
  let c32_i32_47 : BitVec 32 := 32#32
  let v135 : BitVec 32 := Scalar.addi c0_i32_46 c32_i32_47
  let c1_i32_48 : BitVec 32 := 1#32
  ⟨c0_i32_46, v135, c1_i32_48⟩
def k0_off17 (k0_t8 : Fin k0_t8_loop.trips) (c0_i32_55 : BitVec 32) : Fin 2 → Nat :=
  let c0_i32_46 : BitVec 32 := 0#32
  let c1_i32_48 : BitVec 32 := 1#32
  let arg74 : BitVec 32 := Scf.iv c0_i32_46 c1_i32_48 k0_t8
  let c8_i32_54 : BitVec 32 := 8#32
  let v139 : BitVec 32 := Scalar.muli arg74 c8_i32_54
  let v140 : BitVec 32 := Scalar.addi v139 c0_i32_55
  let v141 : Index := Scalar.indexCast v140
  let c64_56 : Index := 64#32
  ![v141.toNat, 64]
def k0_off18 (k0_t8 : Fin k0_t8_loop.trips) (c0_i32_66 : BitVec 32) : Fin 2 → Nat :=
  let c0_i32_46 : BitVec 32 := 0#32
  let c1_i32_48 : BitVec 32 := 1#32
  let arg74 : BitVec 32 := Scf.iv c0_i32_46 c1_i32_48 k0_t8
  let c8_i32_54 : BitVec 32 := 8#32
  let v139 : BitVec 32 := Scalar.muli arg74 c8_i32_54
  let v202 : BitVec 32 := Scalar.addi v139 c0_i32_66
  let v203 : Index := Scalar.indexCast v202
  let c80_67 : Index := 80#32
  ![v203.toNat, 80]
@[reducible] def k0_t9_loop : Scf.Loop 32 :=
  let c0_i32_50 : BitVec 32 := 0#32
  let c32_i32_51 : BitVec 32 := 32#32
  let v137 : BitVec 32 := Scalar.addi c0_i32_50 c32_i32_51
  let c1_i32_52 : BitVec 32 := 1#32
  ⟨c0_i32_50, v137, c1_i32_52⟩
def k0_off19 (k0_t9 : Fin k0_t9_loop.trips) (c0_i32_55 : BitVec 32) : Fin 2 → Nat :=
  let c0_i32_50 : BitVec 32 := 0#32
  let c1_i32_52 : BitVec 32 := 1#32
  let arg74 : BitVec 32 := Scf.iv c0_i32_50 c1_i32_52 k0_t9
  let c8_i32_54 : BitVec 32 := 8#32
  let v139 : BitVec 32 := Scalar.muli arg74 c8_i32_54
  let v140 : BitVec 32 := Scalar.addi v139 c0_i32_55
  let v141 : Index := Scalar.indexCast v140
  let c96_56 : Index := 96#32
  ![v141.toNat, 96]
def k0_off20 (k0_t9 : Fin k0_t9_loop.trips) (c0_i32_66 : BitVec 32) : Fin 2 → Nat :=
  let c0_i32_50 : BitVec 32 := 0#32
  let c1_i32_52 : BitVec 32 := 1#32
  let arg74 : BitVec 32 := Scf.iv c0_i32_50 c1_i32_52 k0_t9
  let c8_i32_54 : BitVec 32 := 8#32
  let v139 : BitVec 32 := Scalar.muli arg74 c8_i32_54
  let v202 : BitVec 32 := Scalar.addi v139 c0_i32_66
  let v203 : Index := Scalar.indexCast v202
  let c112_67 : Index := 112#32
  ![v203.toNat, 112]
def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x1024 : Shape := ⟨3, ![4, 8192, 1024]⟩
abbrev S4x1024x8192 : Shape := ⟨3, ![4, 1024, 8192]⟩
abbrev S4x1024x8 : Shape := ⟨3, ![4, 1024, 8]⟩
abbrev S4x8192 : Shape := ⟨2, ![4, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024x8192, .f32⟩
  | .hbm, ⟨2, _⟩ => ⟨S4x1024x8, .f32⟩
  | .hbm, ⟨3, _⟩ => ⟨S4x1024x8, .i32⟩
  | .hbm, ⟨4, _⟩ => ⟨S4x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Net.lean ====
/-
  The two compare-exchange networks of the kernel, over any type with a "greater" and a "lesser" operation: the sort of
  eight (Batcher's 19 exchanges) and the merge of a sorted running eight with a sorted block of eight (the
  position-wise greater of one against the other reversed, then 12 exchanges).
-/
module

public import Mathlib.Order.Lattice
public import Mathlib.Data.Fin.VecNotation

@[expose] public section

namespace Cert.Top8

variable {α : Type} (mx mn : α → α → α)

/-- The 19 exchanges of the sort of eight: exchange `n` leaves the greater of its two operands as `h‹n›` and the lesser
    as `l‹n›`; the result is the eight values, greatest first. -/
def sort8 (a : Fin 8 → α) : Fin 8 → α :=
  let h1 := mx (a 0) (a 1); let l1 := mn (a 0) (a 1)
  let h2 := mx (a 2) (a 3); let l2 := mn (a 2) (a 3)
  let h3 := mx (a 4) (a 5); let l3 := mn (a 4) (a 5)
  let h4 := mx (a 6) (a 7); let l4 := mn (a 6) (a 7)
  let h5 := mx h1 h2; let l5 := mn h1 h2
  let h6 := mx l1 l2; let l6 := mn l1 l2
  let h7 := mx h3 h4; let l7 := mn h3 h4
  let h8 := mx l3 l4; let l8 := mn l3 l4
  let h9 := mx h6 l5; let l9 := mn h6 l5
  let h10 := mx h8 l7; let l10 := mn h8 l7
  let h11 := mx h5 h7; let l11 := mn h5 h7
  let h12 := mx h9 h10; let l12 := mn h9 h10
  let h13 := mx l9 l10; let l13 := mn l9 l10
  let h14 := mx l6 l8; let l14 := mn l6 l8
  let h15 := mx h13 l11; let l15 := mn h13 l11
  let h16 := mx h14 l12; let l16 := mn h14 l12
  let h17 := mx h12 h15; let l17 := mn h12 h15
  let h18 := mx h16 l15; let l18 := mn h16 l15
  let h19 := mx l16 l13; let l19 := mn l16 l13
  ![h11, h17, l17, h18, l18, h19, l19, l14]

/-- The 12 exchanges of a bitonic merge of eight, greatest first. -/
def merge8 (a : Fin 8 → α) : Fin 8 → α :=
  let h1 := mx (a 0) (a 4); let l1 := mn (a 0) (a 4)
  let h2 := mx (a 1) (a 5); let l2 := mn (a 1) (a 5)
  let h3 := mx (a 2) (a 6); let l3 := mn (a 2) (a 6)
  let h4 := mx (a 3) (a 7); let l4 := mn (a 3) (a 7)
  let h5 := mx h1 h3; let l5 := mn h1 h3
  let h6 := mx h2 h4; let l6 := mn h2 h4
  let h7 := mx l1 l3; let l7 := mn l1 l3
  let h8 := mx l2 l4; let l8 := mn l2 l4
  let h9 := mx h5 h6; let l9 := mn h5 h6
  let h10 := mx l5 l6; let l10 := mn l5 l6
  let h11 := mx h7 h8; let l11 := mn h7 h8
  let h12 := mx l7 l8; let l12 := mn l7 l8
  ![h9, l9, h10, l10, h11, l11, h12, l12]

/-- The running eight `r` merged with a sorted block `v`: the position-wise greater of `r` and `v` reversed, merged. -/
def topOf (r v : Fin 8 → α) : Fin 8 → α :=
  merge8 mx mn ![mx (r 0) (v 7), mx (r 1) (v 6), mx (r 2) (v 5), mx (r 3) (v 4), mx (r 4) (v 3), mx (r 5) (v 2),
    mx (r 6) (v 1), mx (r 7) (v 0)]

end Cert.Top8
-- ==== Proof.Trip.lean ====
/-
  One trip of each of the kernel's eight inner loops is ONE program over a staging buffer and two rows of offsets: eight
  rows of sixteen lanes read from the buffer, sorted, merged into a running eight; then the same for the next sixteen
  lanes.
-/
module

public import proofs.«01_k».proof.Proof.Gen.KernelIdeal.Skeleton
public import proofs.«01_k».proof.Proof.Net

@[expose] public section

noncomputable section

namespace Cert.Top8

open Cert.KernelIdeal Cert.KernelIdeal.Gen
open Idealize.ShloMosaic Idealize.SL.Sem

variable {F : FTy → Type} [FloatOps F]

/-- Sixteen lanes of floats. -/
abbrev V (F : FTy → Type) : Type := FVec F S16 .f32

/-- Eight running vectors. -/
abbrev V8 (F : FTy → Type) : Type := Fin 8 → V F

/-- The sixteen vectors an inner loop carries. -/
abbrev T16 (F : FTy → Type) : Type :=
  V F × V F × V F × V F × V F × V F × V F × V F × V F × V F × V F × V F × V F × V F × V F × V F

/-- The sixty-four running vectors: eight column groups, each an eight. -/
abbrev V64 (F : FTy → Type) : Type := Fin 8 → V8 F

/-- Two running eights as the tuple an inner loop carries. -/
def pack16 (a b : V8 F) : T16 F :=
  (a 0, a 1, a 2, a 3, a 4, a 5, a 6, a 7, b 0, b 1, b 2, b 3, b 4, b 5, b 6, b 7)

/-- Eight vectors sorted lane by lane, greatest first. -/
abbrev sortV (a : V8 F) : V8 F := sort8 maximumf minimumf a

/-- A running eight merged with a sorted eight, lane by lane. -/
abbrev topV (r v : V8 F) : V8 F := topOf maximumf minimumf r v

/-- The programs of one tile. -/
abbrev TileProg (F : FTy → Type) (i : grid0.Coords) (α : Type) : Type 1 :=
  Prog (TpuEff nD τ sig (Elt F) Λ₀ (.scVector ((i 0).castLE hcore0) ((i 1).castLE hsub0))) α

/-- Sixteen lanes of one row of a staging buffer, read at the offsets `o`. -/
def loadRow (i : grid0.Coords) (M : Memref sig .scVector .vmem S256x128 .f32) (o : Fin 2 → Nat)
    (h : ∀ a, o a + S1x16.size a ≤ S256x128.size a) : TileProg F i (Vec F S1x16 .f32) :=
  Prog.lift (.load M (Rect.unit (s := S256x128) o S1x16.size h).toLoadRect (View.loadsAt_vmem h_S1x16))

/-- A row read as a vector of sixteen lanes. -/
abbrev row (v : Vec F S1x16 .f32) : V F := shapeCast S16 v shapeCasts_S1x16_S16

/-- Eight rows read in order, each as a vector of sixteen lanes. -/
def loadRows (i : grid0.Coords) (M : Memref sig .scVector .vmem S256x128 .f32) (o : Fin 8 → Fin 2 → Nat)
    (h : ∀ r a, o r a + S1x16.size a ≤ S256x128.size a) : TileProg F i (V8 F) := do
  let v0 ← loadRow i M (o 0) (h 0)
  let v1 ← loadRow i M (o 1) (h 1)
  let v2 ← loadRow i M (o 2) (h 2)
  let v3 ← loadRow i M (o 3) (h 3)
  let v4 ← loadRow i M (o 4) (h 4)
  let v5 ← loadRow i M (o 5) (h 5)
  let v6 ← loadRow i M (o 6) (h 6)
  let v7 ← loadRow i M (o 7) (h 7)
  pure ![row v0, row v1, row v2, row v3, row v4, row v5, row v6, row v7]

/-- One trip: sixteen lanes of eight rows sorted and merged into `ra`, then sixteen others into `rb`. -/
def trip (i : grid0.Coords) (M : Memref sig .scVector .vmem S256x128 .f32) (oA oB : Fin 8 → Fin 2 → Nat)
    (hA : ∀ r a, oA r a + S1x16.size a ≤ S256x128.size a) (hB : ∀ r a, oB r a + S1x16.size a ≤ S256x128.size a)
    (ra rb : V8 F) : TileProg F i (T16 F) := do
  let a ← loadRows i M oA hA
  let b ← loadRows i M oB hB
  pure (pack16 (topV ra (sortV a)) (topV rb (sortV b)))

/-- The first eight of a carried tuple. -/
def lo (x : T16 F) : V8 F := ![x.1, x.2.1, x.2.2.1, x.2.2.2.1, x.2.2.2.2.1, x.2.2.2.2.2.1, x.2.2.2.2.2.2.1, x.2.2.2.2.2.2.2.1]

/-- The second eight of a carried tuple. -/
def hi (x : T16 F) : V8 F := ![x.2.2.2.2.2.2.2.2.1, x.2.2.2.2.2.2.2.2.2.1, x.2.2.2.2.2.2.2.2.2.2.1, x.2.2.2.2.2.2.2.2.2.2.2.1, x.2.2.2.2.2.2.2.2.2.2.2.2.1, x.2.2.2.2.2.2.2.2.2.2.2.2.2.1, x.2.2.2.2.2.2.2.2.2.2.2.2.2.2.1, x.2.2.2.2.2.2.2.2.2.2.2.2.2.2.2]

/-- The first eight of a packed pair. -/
theorem lo_pack16 (a b : V8 F) : lo (pack16 a b) = a := by
  funext j; fin_cases j <;> rfl

/-- The second eight of a packed pair. -/
theorem hi_pack16 (a b : V8 F) : hi (pack16 a b) = b := by
  funext j; fin_cases j <;> rfl

/-- An inner loop over column groups `2 p` and `2 p + 1`: thirty-two trips, trip `t` reading rows `8 t + r` at columns
    `32 p` and `32 p + 16`. -/
structure Pass (p : ℕ) where
  L : Scf.Loop 32
  ok : L.OK
  oA : Fin L.trips → Fin 8 → Fin 2 → ℕ
  oB : Fin L.trips → Fin 8 → Fin 2 → ℕ
  hA : ∀ t r a, oA t r a + S1x16.size a ≤ S256x128.size a
  hB : ∀ t r a, oB t r a + S1x16.size a ≤ S256x128.size a
  trips : L.trips = 32
  eqA : ∀ t r, oA t r = ![8 * t.val + r.val, 32 * p]
  eqB : ∀ t r, oB t r = ![8 * t.val + r.val, 32 * p + 16]

/-- The inner loop run from two eights. -/
def Pass.run {p : ℕ} (P : Pass p) (i : grid0.Coords) (M : Memref sig .scVector .vmem S256x128 .f32) (ra rb : V8 F) :
    TileProg F i (T16 F) :=
  Scf.Loop.for P.L P.ok (pack16 ra rb) fun t x => trip i M (P.oA t) (P.oB t) (P.hA t) (P.hB t) (lo x) (hi x)

/-- Column groups 0 and 1 of the first buffer. -/
def pass2 : Pass 0 where
  L := k0_t2_loop
  ok := k0_t2_ok
  oA t r := k0_off4 t (BitVec.ofNat 32 r.val)
  oB t r := k0_off5 t (BitVec.ofNat 32 r.val)
  hA := k0_off4_inb
  hB := k0_off5_inb
  trips := by decide
  eqA := k0_off4_eq
  eqB := k0_off5_eq

/-- Column groups 2 and 3 of the first buffer. -/
def pass3 : Pass 1 where
  L := k0_t3_loop
  ok := k0_t3_ok
  oA t r := k0_off6 t (BitVec.ofNat 32 r.val)
  oB t r := k0_off7 t (BitVec.ofNat 32 r.val)
  hA := k0_off6_inb
  hB := k0_off7_inb
  trips := by decide
  eqA := k0_off6_eq
  eqB := k0_off7_eq

/-- Column groups 4 and 5 of the first buffer. -/
def pass4 : Pass 2 where
  L := k0_t4_loop
  ok := k0_t4_ok
  oA t r := k0_off8 t (BitVec.ofNat 32 r.val)
  oB t r := k0_off9 t (BitVec.ofNat 32 r.val)
  hA := k0_off8_inb
  hB := k0_off9_inb
  trips := by decide
  eqA := k0_off8_eq
  eqB := k0_off9_eq

/-- Column groups 6 and 7 of the first buffer. -/
def pass5 : Pass 3 where
  L := k0_t5_loop
  ok := k0_t5_ok
  oA t r := k0_off10 t (BitVec.ofNat 32 r.val)
  oB t r := k0_off11 t (BitVec.ofNat 32 r.val)
  hA := k0_off10_inb
  hB := k0_off11_inb
  trips := by decide
  eqA := k0_off10_eq
  eqB := k0_off11_eq

/-- Column groups 0 and 1 of the second buffer. -/
def pass6 : Pass 0 where
  L := k0_t6_loop
  ok := k0_t6_ok
  oA t r := k0_off13 t (BitVec.ofNat 32 r.val)
  oB t r := k0_off14 t (BitVec.ofNat 32 r.val)
  hA := k0_off13_inb
  hB := k0_off14_inb
  trips := by decide
  eqA := k0_off13_eq
  eqB := k0_off14_eq

/-- Column groups 2 and 3 of the second buffer. -/
def pass7 : Pass 1 where
  L := k0_t7_loop
  ok := k0_t7_ok
  oA t r := k0_off15 t (BitVec.ofNat 32 r.val)
  oB t r := k0_off16 t (BitVec.ofNat 32 r.val)
  hA := k0_off15_inb
  hB := k0_off16_inb
  trips := by decide
  eqA := k0_off15_eq
  eqB := k0_off16_eq

/-- Column groups 4 and 5 of the second buffer. -/
def pass8 : Pass 2 where
  L := k0_t8_loop
  ok := k0_t8_ok
  oA t r := k0_off17 t (BitVec.ofNat 32 r.val)
  oB t r := k0_off18 t (BitVec.ofNat 32 r.val)
  hA := k0_off17_inb
  hB := k0_off18_inb
  trips := by decide
  eqA := k0_off17_eq
  eqB := k0_off18_eq

/-- Column groups 6 and 7 of the second buffer. -/
def pass9 : Pass 3 where
  L := k0_t9_loop
  ok := k0_t9_ok
  oA t r := k0_off19 t (BitVec.ofNat 32 r.val)
  oB t r := k0_off20 t (BitVec.ofNat 32 r.val)
  hA := k0_off19_inb
  hB := k0_off20_inb
  trips := by decide
  eqA := k0_off19_eq
  eqB := k0_off20_eq

/-- The sixty-four vectors as the tuple the outer loop carries. -/
abbrev T64 (F : FTy → Type) : Type :=
  V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F × V F

/-- The sixty-four vectors as the record the first half of an outer trip returns. -/
abbrev S64 (F : FTy → Type) : Type :=
  Σ' (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F), V F

/-- The eight eights as the nested pairs a loop carries. -/
def pack64 (st : V64 F) : T64 F := (st 0 0, st 0 1, st 0 2, st 0 3, st 0 4, st 0 5, st 0 6, st 0 7, st 1 0, st 1 1, st 1 2, st 1 3, st 1 4, st 1 5, st 1 6, st 1 7, st 2 0, st 2 1, st 2 2, st 2 3, st 2 4, st 2 5, st 2 6, st 2 7, st 3 0, st 3 1, st 3 2, st 3 3, st 3 4, st 3 5, st 3 6, st 3 7, st 4 0, st 4 1, st 4 2, st 4 3, st 4 4, st 4 5, st 4 6, st 4 7, st 5 0, st 5 1, st 5 2, st 5 3, st 5 4, st 5 5, st 5 6, st 5 7, st 6 0, st 6 1, st 6 2, st 6 3, st 6 4, st 6 5, st 6 6, st 6 7, st 7 0, st 7 1, st 7 2, st 7 3, st 7 4, st 7 5, st 7 6, st 7 7)

/-- The eight eights as the record a printed part returns. -/
def rec64 (st : V64 F) : S64 F := ⟨st 0 0, st 0 1, st 0 2, st 0 3, st 0 4, st 0 5, st 0 6, st 0 7, st 1 0, st 1 1, st 1 2, st 1 3, st 1 4, st 1 5, st 1 6, st 1 7, st 2 0, st 2 1, st 2 2, st 2 3, st 2 4, st 2 5, st 2 6, st 2 7, st 3 0, st 3 1, st 3 2, st 3 3, st 3 4, st 3 5, st 3 6, st 3 7, st 4 0, st 4 1, st 4 2, st 4 3, st 4 4, st 4 5, st 4 6, st 4 7, st 5 0, st 5 1, st 5 2, st 5 3, st 5 4, st 5 5, st 5 6, st 5 7, st 6 0, st 6 1, st 6 2, st 6 3, st 6 4, st 6 5, st 6 6, st 6 7, st 7 0, st 7 1, st 7 2, st 7 3, st 7 4, st 7 5, st 7 6, st 7 7⟩

/-- The sixty-four vectors of a carried tuple, group by group. -/
def unpack64 (y : T64 F) : V64 F :=
  ![![y.1, y.2.1, y.2.2.1, y.2.2.2.1, y.2.2.2.2.1, y.2.2.2.2.2.1, y.2.2.2.2.2.2.1, y.2.2.2.2.2.2.2.1],
    ![y.2.2.2.2.2.2.2.2.1, y.2.2.2.2.2.2.2.2.2.1, y.2.2.2.2.2.2.2.2.2.2.1, y.2.2.2.2.2.2.2.2.2.2.2.1, y.2.2.2.2.2.2.2.2.2.2.2.2.1, y.2.2.2.2.2.2.2.2.2.2.2.2.2.1, y.2.2.2.2.2.2.2.2.2.2.2.2.2.2.1, y.2.2.2.2.2.2.2.2.2.2.2.2.2.2.2.1],
    ![y.2.2.2.2.2.2.2.2.2.2.2.2.2.2.2.2.1, y.2.2.2.2.2.2.2.2.2.2.2.2.2.2.2.2.2.1, y.2.2.2.2.2.2.2.2.2.2.2.2.2.2.2.2.2.2.1, y.2.2.2.2.2.2.2.2.2.2.2.2.2.2.2.2.2.2.2.1, y.2.2.2.2.2.2.2.2.2.2.2.2.2.2.2.2.2.2.2.2.1, y.2.2.2.2.2.2.2.2.2.2.2.2.2.2.2.2.2.2.2.2.2.1, y.2.2.2.2.2.2.2.2.2.2.2.2.2.2.2.2.2.2.2.2.2.2.1, y.2.2.2.2.2.2.2.2.2.2.2.2.2.2.2.2.2.2.2.2.2.2.2.1],
    ![y.2.2.2.2.2.2.2.2.2.2.2.2.2.2.2.2.2.2.2.2.2.2.2.2.1, y.2.2.2.2.2.2.2.2.2.2.2.2.2.2.2.2.2.2.2.2.2.2.2.2.2.1, y.2.2.2.2.2.2.2.2.2.2.2.2.2.2.2.2.2.2.2.2.2.2.2.2.2.2.1, y.2.2.2.2.2.2.2.2.2.2.2.2.2.2.2.2.2.2.2.2.2.2.2.2.2.2.2.1, y.2.2.2.2.2.2.2.2.2.2.2.2.2.2.2.2.2.2.2.2.2.2.2.2.2.2.2.2.1, y.2.2.2.2.2.2.2.2.2.2.2.2.2.2.2.2.2.2.2.2.2.2.2.2.2.2.2.2.2.1, y.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.1],
    ![y.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.1],
    ![y.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.1],
    ![y.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.1],
    ![y.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2]]

/-- The sixty-four vectors of a returned record, group by group. -/
def unrec64 (y : S64 F) : V64 F :=
  ![![y.1, y.2.1, y.2.2.1, y.2.2.2.1, y.2.2.2.2.1, y.2.2.2.2.2.1, y.2.2.2.2.2.2.1, y.2.2.2.2.2.2.2.1],
    ![y.2.2.2.2.2.2.2.2.1, y.2.2.2.2.2.2.2.2.2.1, y.2.2.2.2.2.2.2.2.2.2.1, y.2.2.2.2.2.2.2.2.2.2.2.1, y.2.2.2.2.2.2.2.2.2.2.2.2.1, y.2.2.2.2.2.2.2.2.2.2.2.2.2.1, y.2.2.2.2.2.2.2.2.2.2.2.2.2.2.1, y.2.2.2.2.2.2.2.2.2.2.2.2.2.2.2.1],
    ![y.2.2.2.2.2.2.2.2.2.2.2.2.2.2.2.2.1, y.2.2.2.2.2.2.2.2.2.2.2.2.2.2.2.2.2.1, y.2.2.2.2.2.2.2.2.2.2.2.2.2.2.2.2.2.2.1, y.2.2.2.2.2.2.2.2.2.2.2.2.2.2.2.2.2.2.2.1, y.2.2.2.2.2.2.2.2.2.2.2.2.2.2.2.2.2.2.2.2.1, y.2.2.2.2.2.2.2.2.2.2.2.2.2.2.2.2.2.2.2.2.2.1, y.2.2.2.2.2.2.2.2.2.2.2.2.2.2.2.2.2.2.2.2.2.2.1, y.2.2.2.2.2.2.2.2.2.2.2.2.2.2.2.2.2.2.2.2.2.2.2.1],
    ![y.2.2.2.2.2.2.2.2.2.2.2.2.2.2.2.2.2.2.2.2.2.2.2.2.1, y.2.2.2.2.2.2.2.2.2.2.2.2.2.2.2.2.2.2.2.2.2.2.2.2.2.1, y.2.2.2.2.2.2.2.2.2.2.2.2.2.2.2.2.2.2.2.2.2.2.2.2.2.2.1, y.2.2.2.2.2.2.2.2.2.2.2.2.2.2.2.2.2.2.2.2.2.2.2.2.2.2.2.1, y.2.2.2.2.2.2.2.2.2.2.2.2.2.2.2.2.2.2.2.2.2.2.2.2.2.2.2.2.1, y.2.2.2.2.2.2.2.2.2.2.2.2.2.2.2.2.2.2.2.2.2.2.2.2.2.2.2.2.2.1, y.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.1],
    ![y.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.1],
    ![y.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.1],
    ![y.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.1],
    ![y.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, y.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2]]

/-- Packing loses nothing. -/
theorem unpack64_pack64 (st : V64 F) : unpack64 (pack64 st) = st := by
  funext g; fin_cases g <;> (funext j; fin_cases j <;> rfl)

/-- Nor does the record. -/
theorem unrec64_rec64 (st : V64 F) : unrec64 (rec64 st) = st := by
  funext g; fin_cases g <;> (funext j; fin_cases j <;> rfl)

section Program

variable (i : grid0.Coords) (arg2 : Memref sig .scVector .hbm S4x8192x1024 .f32) (harg2 : arg2.IsWhole)
  (arg3 : Memref sig .scVector .hbm S32x1024 .f32) (harg3 : arg3.IsWhole)
  (arg4 : Memref sig .scVector .vmem S256x128 .f32) (harg4 : arg4.IsWhole)
  (arg5 : Memref sig .scVector .vmem S256x128 .f32) (harg5 : arg5.IsWhole)
  (arg6 : Memref sig .scVector .vmem S1024 .f32) (harg6 : arg6.IsWhole) (arg7 arg8 v101_r0 : DmaSems sig S_)

/-- A tile's slab of the operand, 256 rows of 128 columns at the offsets `o`, as a rank-2 window. -/
abbrev slabRef (o : Fin 3 → ℕ) (h : ∀ a, o a + S1x256x128.size a ≤ S4x8192x1024.size a) :
    Memref sig .scVector .hbm S256x128 .f32 :=
  (arg2.slice (Rect.unit (s := S4x8192x1024) o S1x256x128.size h) (fun _ => rfl)).squeeze S256x128
    squeezes_S1x256x128_S256x128

/-- The start of a slab's transfer into a staging buffer. -/
def issue (o : Fin 3 → ℕ) (h : ∀ a, o a + S1x256x128.size a ≤ S4x8192x1024.size a)
    (M : Memref sig .scVector .vmem S256x128 .f32) (hM : M.IsWhole) (s : DmaSems sig S_) : TileProg F i PUnit :=
  Prog.lift (.enqueueDma (slabRef arg2 o h) (.here M) (.dma s.sem) ((View.wordExact_bits rfl).reshape _ _) hM.wordExact
    ⟨Or.inl rfl, trivial⟩)

/-- The wait for it. -/
def await (o : Fin 3 → ℕ) (h : ∀ a, o a + S1x256x128.size a ≤ S4x8192x1024.size a)
    (M : Memref sig .scVector .vmem S256x128 .f32) (hM : M.IsWhole) (s : DmaSems sig S_) : TileProg F i PUnit :=
  Prog.lift (.waitDma2 s.sem (slabRef arg2 o h) M ((View.wordExact_bits rfl).reshape _ _) hM.wordExact)

/-- The first half of an outer trip: the second buffer's transfer started, the first's awaited and consumed, its next
    one started unless this trip is the last, the second's awaited. -/
def front (t : Fin k0_t1_loop.trips) (st : V64 F) : TileProg F i (S64 F) := do
  issue i arg2 (k0_off2 i t) (k0_off2_inb i t) arg5 harg5 arg8
  await i arg2 (k0_off3 i t) (k0_off3_inb i t) arg4 harg4 arg7
  let x0 ← pass2.run i arg4 (st 0) (st 1)
  let x1 ← pass3.run i arg4 (st 2) (st 3)
  let x2 ← pass4.run i arg4 (st 4) (st 5)
  let x3 ← pass5.run i arg4 (st 6) (st 7)
  if h : k0_cond1 t = 1#1 then do
    issue i arg2 (k0_off12 i t) (k0_off12_inb i t h) arg4 harg4 arg7
    pure ⟨⟩
  else do
    pure ⟨⟩
  await i arg2 (k0_off2 i t) (k0_off2_inb i t) arg5 harg5 arg8
  pure (rec64 ![lo x0, hi x0, lo x1, hi x1, lo x2, hi x2, lo x3, hi x3])

/-- An outer trip: its first half, then the second buffer consumed. -/
def outer (t : Fin k0_t1_loop.trips) (st : V64 F) : TileProg F i (T64 F) := do
  let y ← front i arg2 arg4 harg4 arg5 harg5 arg7 arg8 t st
  let x0 ← pass6.run i arg5 (unrec64 y 0) (unrec64 y 1)
  let x1 ← pass7.run i arg5 (unrec64 y 2) (unrec64 y 3)
  let x2 ← pass8.run i arg5 (unrec64 y 4) (unrec64 y 5)
  let x3 ← pass9.run i arg5 (unrec64 y 6) (unrec64 y 7)
  pure (pack64 ![lo x0, hi x0, lo x1, hi x1, lo x2, hi x2, lo x3, hi x3])

/-- The result vector's window of sixteen positions from `128 j + 16 g` lies in the buffer. -/
theorem inbOut (g j : Fin 8) : ∀ a, (![128 * j.val + 16 * g.val] : Fin 1 → ℕ) a + S16.size a ≤ S1024.size a := by
  revert g j; decide +kernel

/-- Vector `j` of group `g` stored at positions `128 j + 16 g` on of the result buffer, the positions read first. -/
def storeOne (g j : Fin 8) (v : V F) : TileProg F i PUnit := do
  let _ ← Prog.lift (.load arg6 (Rect.unit (s := S1024) ![128 * j.val + 16 * g.val] S16.size (inbOut g j)).toLoadRect
    (View.loadsAt_vmem h_S16))
  Prog.lift (.store arg6 (Rect.unit (s := S1024) ![128 * j.val + 16 * g.val] S16.size (inbOut g j)) v Finset.univ
    (View.stores_vmem_bits_univ h_S16 rfl) (.inl rfl))

/-- The vectors of the listed (group, rank) pairs stored in order. -/
def storeList (st : V64 F) : List (Fin 8 × Fin 8) → TileProg F i PUnit
  | [] => pure ⟨⟩
  | p :: l => do
    storeOne i arg6 p.1 p.2 (st p.1 p.2)
    storeList st l

/-- The (group, rank) pairs in the order they are stored. -/
def pairs : List (Fin 8 × Fin 8) :=
  ([0, 1, 2, 3, 4, 5, 6, 7] : List (Fin 8)).flatMap fun g => ([0, 1, 2, 3, 4, 5, 6, 7] : List (Fin 8)).map fun j => (g, j)

/-- The tile's row of the result, as a rank-1 window. -/
abbrev outRef : Memref sig .scVector .hbm S1024 .f32 :=
  (arg3.slice (Rect.unit (s := S32x1024) (k0_off21 i) S1x1024.size (k0_off21_inb i)) (fun _ => rfl)).squeeze S1024
    squeezes_S1x1024_S1024

/-- The stores of the sixty-four vectors and the result row's transfer. -/
def finish (st : V64 F) : TileProg F i PUnit := do
  storeList i arg6 st pairs
  Prog.lift (.enqueueDma arg6 (.here (outRef i arg3)) (.dma v101_r0.sem) harg6.wordExact
    ((View.wordExact_bits rfl).reshape _ _) ⟨Or.inl rfl, trivial⟩)
  Prog.lift (.waitDma2 v101_r0.sem arg6 (outRef i arg3) harg6.wordExact ((View.wordExact_bits rfl).reshape _ _))
  pure ⟨⟩

end Program

end Cert.Top8
-- ==== Proof.Blocks.lean ====
/-
  What the kernel computes, as functions of the operand: blocks of eight rows by sixteen columns, the running eight of a
  column group after a number of blocks, and the row of the result a tile leaves.
-/
module

public import proofs.«01_k».proof.Proof.Trip

@[expose] public section

noncomputable section

namespace Cert.Top8

open Cert.KernelIdeal Cert.KernelIdeal.Gen
open Idealize.ShloMosaic

variable {F : FTy → Type} [FloatOps F]

/-- A tile's number. -/
def wid (i : grid0.Coords) : ℕ := 2 * (i 1).val + (i 0).val

/-- There are thirty-two tiles. -/
theorem wid_lt (i : grid0.Coords) : wid i < 32 := by
  have h0 : (i 0).val < 2 := (i 0).isLt
  have h1 : (i 1).val < 16 := (i 1).isLt
  unfold wid; omega

/-- The position of the operand at row `y` and column `z` of the window of batch `w / 8` and columns `128 (w % 8)` on,
    each coordinate modulo its bound. -/
def pos (w y z : ℕ) : S4x8192x1024.Idx := fun a =>
  ⟨(![w / 8, y, w % 8 * 128 + z] : Fin 3 → ℕ) a % S4x8192x1024.size a, Nat.mod_lt _ (by revert a; decide)⟩

/-- Rows `8 n` on of column group `g`, an eight of sixteen lanes. -/
def block (X : Vec F S4x8192x1024 .f32) (w : ℕ) (g : Fin 8) (n : ℕ) : V8 F := fun r l =>
  X (pos w (8 * n + r.val) (16 * g.val + (l 0).val))

/-- The running eight of column group `g` after `n` blocks. -/
def acc (X : Vec F S4x8192x1024 .f32) (w : ℕ) (g : Fin 8) : ℕ → V8 F
  | 0 => fun _ => k0_pay1241
  | n + 1 => topV (acc X w g n) (sortV (block X w g n))

/-- A tile's row of the result: position `128 j + 16 g + l` holds lane `l` of rank `j` of group `g` after all blocks. -/
def outRow (X : Vec F S4x8192x1024 .f32) (w : ℕ) : Vec F S1024 .f32 := fun y =>
  acc X w ⟨(y 0).val % 128 / 16, by omega⟩ 1024 ⟨(y 0).val / 128, by have : (y 0).val < 1024 := (y 0).isLt; omega⟩
    (fun a => ⟨(y 0).val % 16, by have : S16.size a = 16 := by revert a; decide
                                  omega⟩)

/-- Sixteen lanes of a staging buffer's contents. -/
def cut (u : Vec F S256x128 .f32) (o : Fin 2 → ℕ) (h : ∀ a, o a + S1x16.size a ≤ S256x128.size a) : Vec F S1x16 .f32 :=
  fun x => u ((Rect.unit (s := S256x128) o S1x16.size h).toLoadRect.idx x)

/-- The contents are slab `k` of the tile's window. -/
def IsSlab (X : Vec F S4x8192x1024 .f32) (w k : ℕ) (u : Vec F S256x128 .f32) : Prop :=
  ∀ y, u y = X (pos w (256 * k + (y 0).val) (y 1).val)

/-- Row `8 t + r` of slab `k`, at a column group's columns, is row `r` of block `32 k + t`. -/
theorem row_cut {X : Vec F S4x8192x1024 .f32} {w k : ℕ} {u : Vec F S256x128 .f32} (hu : IsSlab X w k u) (g r : Fin 8)
    {t c : ℕ} (ht : t < 32) (hc : c = 16 * g.val) {o : Fin 2 → ℕ} (ho : o = ![8 * t + r.val, c])
    (h : ∀ a, o a + S1x16.size a ≤ S256x128.size a) : row (cut u o h) = block X w g (32 * k + t) r := by
  subst ho hc
  funext l
  show u _ = X _
  rw [hu]
  have e : (Shape.reshapeEquiv shapeCasts_S1x16_S16 l : S1x16.Idx) = Fin.cons ⟨0, Nat.one_pos⟩ l :=
    Shape.reshapeEquiv_cons_one (d := ![16]) _ l
  rw [e]
  congr 2
  · show 256 * k + (8 * t + r.val + 1 * 0) = 8 * (32 * k + t) + r.val
    omega
  · show 16 * g.val + 1 * (l 0).val = 16 * g.val + (l 0).val
    omega

end Cert.Top8
-- ==== Proof.Offsets.lean ====
/-
  Where each transfer of a tile begins: the tile's batch, the slab's first row, the tile's first column; and which trips
  start another transfer.
-/
module

public import proofs.«01_k».proof.Proof.Blocks

@[expose] public section

noncomputable section

namespace Cert.Top8

open Cert.KernelIdeal Cert.KernelIdeal.Gen
open Idealize.ShloMosaic

/-- The tile's numbers by its two coordinates. -/
theorem coords_ext (i : grid0.Coords) : i = fun | 0 => i 0 | 1 => i 1 | ⟨_ + 2, h⟩ => absurd h (Nat.not_lt.2 (Nat.le_add_left _ _)) := by
  funext a
  match a with
  | 0 => rfl
  | 1 => rfl

/-- A statement on every tile is a statement on every pair of coordinates. -/
theorem forall_coords {p : grid0.Coords → Prop}
    (h : ∀ (c : Fin 2) (s : Fin 16), p (fun | 0 => c | 1 => s | ⟨_ + 2, h⟩ => absurd h (Nat.not_lt.2 (Nat.le_add_left _ _)))) :
    ∀ i, p i := fun i => by rw [coords_ext i]; exact h (i 0) (i 1)

/-- The outer loop takes sixteen trips. -/
theorem trips_outer : k0_t1_loop.trips = 16 := by decide

/-- The first slab starts at row 0 of the tile's window. -/
theorem off1_eq (i : grid0.Coords) : k0_off1 i = ![wid i / 8, 0, wid i % 8 * 128] := by
  revert i; refine forall_coords ?_; decide +kernel

/-- The odd slab of a trip starts at its row of the tile's window. -/
theorem off2_eq (i : grid0.Coords) (t : Fin k0_t1_loop.trips) :
    k0_off2 i t = ![wid i / 8, 256 * (2 * t.val + 1), wid i % 8 * 128] := by
  revert t; revert i; refine forall_coords ?_; decide +kernel

/-- The even slab of the next trip starts at its row of the tile's window. -/
theorem off12_eq (i : grid0.Coords) (t : Fin k0_t1_loop.trips) :
    k0_off12 i t = ![wid i / 8, 256 * (2 * t.val + 2), wid i % 8 * 128] := by
  revert t; revert i; refine forall_coords ?_; decide +kernel

/-- The next even slab is fetched on every trip but the last. -/
theorem cond1_iff (t : Fin k0_t1_loop.trips) : k0_cond1 t = 1#1 ↔ t.val + 1 < 16 := by
  revert t; decide +kernel

end Cert.Top8
-- ==== Proof.Base.lean ====
/-
  The kernel's program as the launch theorem sees it, its resource algebra, its buffers and its tiles' threads.
-/
module

public import proofs.«01_k».proof.Defs
public import proofs.«01_k».proof.Proof.Offsets
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Top8

open Cert.KernelIdeal Cert.KernelIdeal.Gen

open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The program's label signature. -/
abbrev ΛP : Labels := Pipeline.Sig Λ₀ (Fin 0) fun p => (pcfgs (F := F) p).Adm
/-- The program's SparseCore calls: one. -/
abbrev K : SparseCore.Cfg τ sig (ΛP (F := F)) 1 := sc (F := F)
/-- The program's body table. -/
abbrev D [FloatOps F] : Defs nD τ sig (Elt F) (ΛP (F := F)) := Pipeline.defs pcfgs defs₀
/-- No loop of the kernels needs a variant. -/
abbrev 𝒱₀ : Variants := Variants.none
/-- The same for the program with its launch. -/
abbrev 𝒱 : Variants := 𝒱₀.lift
/-- The variant a thread starts with. -/
abbrev v₀ : 𝒱.V := Sum.inl none

/-- The launch's facts of the configuration hold. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' ghost state beside the transfers' counters. -/
abbrev UH : Type := URounds (GSem nD τ sig) ℕ
/-- The ghost state: the handshakes' beside the transfers' counters. -/
abbrev UU : Type := UH × Counters

local notation "𝕄" => MT nD τ sig (HIx 1) (Elt F) ℕ UU ℕ

/-- Where the handshakes' ghost state lies in the whole. -/
abbrev EH : Emb UH (MT nD τ sig (HIx 1) (Elt F) ℕ UU ℕ) := embL

/-- The SparseCore and the subcore of a tile. -/
abbrev cV (i : grid0.Coords) : Fin τ.nSC := (i 0).castLE hcore0
/-- A tile's subcore. -/
abbrev jV (i : grid0.Coords) : Fin τ.nSub := (i 1).castLE hsub0

/-- The thread of a tile. -/
abbrev tile (d : Dev nD) (i : grid0.Coords) : Thread nD τ := SparseCore.V d (cV i) (jV i)

/-- The operand's place. -/
abbrev xLoc (d : Dev nD) : Loc nD τ sig := (SparseCore.T d).loc main_arg0
/-- The place of the call's result. -/
abbrev oLoc (d : Dev nD) : Loc nD τ sig := (SparseCore.T d).loc main_v0

/-- The operand, the kernel's result, and a tile's scratch, as the kernel names them. -/
abbrev xV : Memref sig .scVector .hbm S4x8192x1024 .f32 := Memref.whole main_arg0_scv
/-- The call's result, as a tile names it. -/
abbrev oV : Memref sig .scVector .hbm S32x1024 .f32 := Memref.whole main_v0_scv
/-- A tile's first staging buffer. -/
abbrev aV : Memref sig .scVector .vmem S256x128 .f32 := Memref.whole cc0_scratch0
/-- A tile's second staging buffer. -/
abbrev bV : Memref sig .scVector .vmem S256x128 .f32 := Memref.whole cc0_scratch1
/-- A tile's buffer for its row of the result. -/
abbrev rV : Memref sig .scVector .vmem S1024 .f32 := Memref.whole cc0_scratch2

end Cert.Top8
-- ==== Proof.Step.lean ====
/-
  The pieces of a tile's program run once each, at a symbolic tile and a symbolic staging buffer: an inner trip, an inner
  loop, a slab's transfer started and awaited.
-/
module

public import proofs.«01_k».proof.Proof.Base

@[expose] public section

noncomputable section

namespace Cert.Top8

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)

/-- A tile's program run to a postcondition. -/
abbrev Wp {α : Type} (p : TileProg F i α) (Q : α → sProp 𝕄) : sProp 𝕄 :=
  wp frame (wpE (defs₀ (F := F)) 𝒱₀ (tile d i) none) Set.univ p Q

/-- A returned value meets what holds of it. -/
theorem wp_done {α : Type} (a : α) (Q : α → sProp 𝕄) : Q a ⊢ Wp d i (pure a) Q := by
  unfold Wp
  rw [wp_pure]
  iintro H; imodintro; iexact H

variable (M : Memref sig .scVector .vmem S256x128 .f32)

/-- Sixteen lanes of one row read: what the buffer holds there, the buffer kept. -/
theorem wp_loadRow {β : Type} (o : Fin 2 → ℕ) (h : ∀ a, o a + S1x16.size a ≤ S256x128.size a)
    (f : Buf (Elt F) (M.view.loc (tile d i))) (k : Vec F S1x16 .f32 → TileProg F i β) (Q : β → sProp 𝕄) :
    (M.view.loc (tile d i) ↦{fullShare} f)
      ⊢ iprop(((M.view.loc (tile d i) ↦{fullShare} f) -∗ Wp d i (k (cut (M.view.read (Elt F) f) o h)) Q)
          -∗ Wp d i (loadRow i M o h >>= k) Q) := by
  refine wp_load (Q := Q) (defs := defs₀ (F := F)) (k := fun x => (Prog.ret x).bind k) 𝒱₀ (tile d i) none Set.univ (m := M)
    (r := (Rect.unit (s := S256x128) o S1x16.size h).toLoadRect) (hl := View.loadsAt_vmem h_S1x16) (q := fullShare) (f := f)
    (S := Finset.univ) (Finset.subset_univ _)

/-- Eight rows read. -/
theorem wp_loadRows {β : Type} (o : Fin 8 → Fin 2 → ℕ) (h : ∀ r a, o r a + S1x16.size a ≤ S256x128.size a)
    (f : Buf (Elt F) (M.view.loc (tile d i))) (k : V8 F → TileProg F i β) (Q : β → sProp 𝕄) :
    (M.view.loc (tile d i) ↦{fullShare} f)
      ⊢ iprop(((M.view.loc (tile d i) ↦{fullShare} f)
            -∗ Wp d i (k fun r => row (cut (M.view.read (Elt F) f) (o r) (h r))) Q)
          -∗ Wp d i (loadRows i M o h >>= k) Q) := by
  have e : (fun r => row (cut (M.view.read (Elt F) f) (o r) (h r)))
      = ![row (cut (M.view.read (Elt F) f) (o 0) (h 0)), row (cut (M.view.read (Elt F) f) (o 1) (h 1)),
        row (cut (M.view.read (Elt F) f) (o 2) (h 2)), row (cut (M.view.read (Elt F) f) (o 3) (h 3)),
        row (cut (M.view.read (Elt F) f) (o 4) (h 4)), row (cut (M.view.read (Elt F) f) (o 5) (h 5)),
        row (cut (M.view.read (Elt F) f) (o 6) (h 6)), row (cut (M.view.read (Elt F) f) (o 7) (h 7))] := by
    funext r; fin_cases r <;> rfl
  rw [e]
  iintro Hf Hk
  iapply (wp_loadRow d i M (o 0) (h 0) f _ Q) $$ Hf; iintro Hf
  iapply (wp_loadRow d i M (o 1) (h 1) f _ Q) $$ Hf; iintro Hf
  iapply (wp_loadRow d i M (o 2) (h 2) f _ Q) $$ Hf; iintro Hf
  iapply (wp_loadRow d i M (o 3) (h 3) f _ Q) $$ Hf; iintro Hf
  iapply (wp_loadRow d i M (o 4) (h 4) f _ Q) $$ Hf; iintro Hf
  iapply (wp_loadRow d i M (o 5) (h 5) f _ Q) $$ Hf; iintro Hf
  iapply (wp_loadRow d i M (o 6) (h 6) f _ Q) $$ Hf; iintro Hf
  iapply (wp_loadRow d i M (o 7) (h 7) f _ Q) $$ Hf; iintro Hf
  iapply Hk; iexact Hf

/-- An inner loop over one buffer: two sequences of running eights, each step of them what a trip computes from the
    buffer, taken from the first to the thirty-second; the buffer kept. -/
theorem wp_pass {p : ℕ} (P : Pass p) {β : Type} (f : Buf (Elt F) (M.view.loc (tile d i))) (A B : ℕ → V8 F)
    (hA : ∀ t : Fin P.L.trips,
      A (t.val + 1) = topV (A t.val) (sortV fun r => row (cut (M.view.read (Elt F) f) (P.oA t r) (P.hA t r))))
    (hB : ∀ t : Fin P.L.trips,
      B (t.val + 1) = topV (B t.val) (sortV fun r => row (cut (M.view.read (Elt F) f) (P.oB t r) (P.hB t r))))
    {ra rb : V8 F} (ha : ra = A 0) (hb : rb = B 0) (k : T16 F → TileProg F i β) (Q : β → sProp 𝕄) :
    (M.view.loc (tile d i) ↦{fullShare} f)
      ⊢ iprop(((M.view.loc (tile d i) ↦{fullShare} f) -∗ Wp d i (k (pack16 (A 32) (B 32))) Q)
          -∗ Wp d i (P.run i M ra rb >>= k) Q) := by
  subst ha hb
  iintro Hf Hk
  unfold Pass.run Scf.Loop.for
  iapply (Scf.wp_for_bind (M := 𝕄) _ _ Set.univ P.L.lb P.L.ub P.L.st P.ok (pack16 (A 0) (B 0)) _
    (fun t acc => iprop(⌜acc = pack16 (A t) (B t)⌝ ∗ (M.view.loc (tile d i) ↦{fullShare} f))) ?_) $$ [Hf]
  · intro t acc
    iintro ⟨%hacc, Hf⟩
    subst hacc
    rw [lo_pack16, hi_pack16]
    unfold trip
    iapply (wp_loadRows d i M (P.oA t) (P.hA t) f _ _) $$ Hf; iintro Hf
    iapply (wp_loadRows d i M (P.oB t) (P.hB t) f _ _) $$ Hf; iintro Hf
    rw [← hA t, ← hB t]
    iapply (wp_done d i)
    isplitr
    · ipureintro; rfl
    · iexact Hf
  · isplitr
    · ipureintro; rfl
    · iexact Hf
  iintro %acc ⟨%hacc, Hf⟩
  subst hacc
  rw [show Scf.trips P.L.lb P.L.ub P.L.st = 32 from P.trips]
  iapply Hk; iexact Hf

/-- A tile's thread owes what it owed, and has waited besides only for its own transfers. -/
def Ow (O : CellTallies nD τ sig (HIx 1)) (W : Waits sig (HIx 1)) : sProp 𝕄 :=
  iprop(∃ W', ⌜∀ p ∈ W', p ∈ W ∨ p.2 = none⌝ ∗ owes (tile d i) O W')

/-- A slab of the operand, read through its window, is that slab. -/
theorem isSlab_read (X : Buf (Elt F) (xLoc d)) {k : ℕ} (hk : k < 32) {o : Fin 3 → ℕ}
    (ho : o = ![wid i / 8, 256 * k, wid i % 8 * 128]) (h : ∀ a, o a + S1x256x128.size a ≤ S4x8192x1024.size a) :
    IsSlab (F := F) X (wid i) k ((slabRef xV o h).view.read (Elt F) X) := by
  subst ho
  intro y
  have hw := wid_lt i
  have h0 : (y 0).val < 256 := (y 0).isLt
  have h1 : (y 1).val < 128 := (y 1).isLt
  rw [View.read_apply]
  show X _ = X _
  have e : (Shape.reshapeEquiv squeezes_S1x256x128_S256x128.numel_eq y : S1x256x128.Idx) = Fin.cons ⟨0, Nat.one_pos⟩ y :=
    Shape.reshapeEquiv_cons_one (d := ![256, 128]) _ y
  refine congrArg X ?_
  show (Rect.unit (s := S4x8192x1024) ![wid i / 8, 256 * k, wid i % 8 * 128] S1x256x128.size h).toLoadRect.idx
    (Shape.reshapeEquiv squeezes_S1x256x128_S256x128.numel_eq y) = _
  rw [e]
  funext a
  match a with
  | 0 =>
    refine Fin.ext ?_
    show wid i / 8 + 1 * 0 = wid i / 8 % 4
    omega
  | 1 =>
    refine Fin.ext ?_
    show 256 * k + 1 * (y 0).val = (256 * k + (y 0).val) % 8192
    omega
  | 2 =>
    refine Fin.ext ?_
    show wid i % 8 * 128 + 1 * (y 1).val = (wid i % 8 * 128 + (y 1).val) % 1024
    omega

/-- Slab `k` of the operand is on its way into the staging buffer on semaphore `s`: when it has come, the buffer holds it
    and the share of the operand is whole again. -/
def InFlight (s : DmaSems sig S_) (q : PosShare TreeShare) (X : Buf (Elt F) (xLoc d)) (k : ℕ) : sProp 𝕄 :=
  iprop(∃ R : Finset (Idx (xLoc d)),
    Transfers.Flight countersEmb (tile d i) (.dma s.sem) (none : HIx 1) M.view.dmaCredit
      iprop((∃ f, ⌜IsSlab (F := F) X (wid i) k (M.view.read (Elt F) f)⌝ ∗ (M.view.loc (tile d i) ↦{fullShare} f))
        ∗ (xLoc d ↦[R]{q} X))
    ∗ (xLoc d ↦[Finset.univ \ R]{q} X))

/-- A slab's transfer started. -/
theorem wp_issue (hM : M.IsWhole) (s : DmaSems sig S_) (q : PosShare TreeShare) (X : Buf (Elt F) (xLoc d)) {k : ℕ} (hk : k < 32)
    {o : Fin 3 → ℕ} (ho : o = ![wid i / 8, 256 * k, wid i % 8 * 128])
    (h : ∀ a, o a + S1x256x128.size a ≤ S4x8192x1024.size a) {β : Type} (kk : PUnit → TileProg F i β) (Q : β → sProp 𝕄) :
    iprop((xLoc d ↦{q} X) ∗ (∃ f, M.view.loc (tile d i) ↦{fullShare} f) ∗ semVal (tile d i, .dma s.sem) 0)
      ⊢ iprop((InFlight d i M s q X k -∗ Wp d i (kk ⟨⟩) Q) -∗ Wp d i (issue i xV o h M hM s >>= kk) Q) := by
  iintro ⟨Hx, ⟨%fd, Hd⟩, Hs⟩ Hk
  ihave Hx' := (pointsTo_split_subset (q := q) (f := X) (S := Finset.univ)
    (Finset.subset_univ (slabRef xV o h).view.set)).1 $$ Hx
  icases Hx' with ⟨Hxs, Hxr⟩
  iapply (Transfers.wp_dmaLocal countersEmb 𝒱₀ (tile d i) none (src := slabRef xV o h) (dst := M) (via := .same)
    (sm := .dma s.sem) (Sd := Finset.univ) (fs := X) (fd := fd) (q := q) (none : HIx 1) M.view.dmaCredit rfl
    (show 0 < M.view.amount (.dma s.sem) from View.amount_pos _ _ (show 0 < S256x128.numel by decide))
    (Finset.subset_univ _)) $$ [Hxs Hd Hs]
  · isplitl [Hxs]; · iexact Hxs
    isplitl [Hd]; · iexact Hd
    iexact Hs
  iintro Hf
  iapply Hk
  unfold InFlight
  iexists (slabRef xV o h).view.set
  isplitl [Hf]
  · iapply (Transfers.Flight_mono countersEmb (tile d i) ?_) $$ Hf
    iintro ⟨Hd, Hx⟩
    isplitl [Hd]
    · iexists _
      isplitr
      swap
      · iexact Hd
      ipureintro
      rw [View.read_write_univ]
      exact isSlab_read d i X hk ho h
    · iexact Hx
  · iexact Hxr

/-- A slab's transfer awaited. -/
theorem wp_await (hM : M.IsWhole) (s : DmaSems sig S_) (q : PosShare TreeShare) (X : Buf (Elt F) (xLoc d)) (k : ℕ)
    (O : CellTallies nD τ sig (HIx 1)) (W : Waits sig (HIx 1)) (o : Fin 3 → ℕ)
    (h : ∀ a, o a + S1x256x128.size a ≤ S4x8192x1024.size a) {β : Type} (kk : PUnit → TileProg F i β) (Q : β → sProp 𝕄) :
    iprop(InFlight d i M s q X k ∗ Ow d i O W ∗ Transfers.MayWaits (tile d i) (none : HIx 1) O)
      ⊢ iprop((((∃ f, ⌜IsSlab (F := F) X (wid i) k (M.view.read (Elt F) f)⌝ ∗ (M.view.loc (tile d i) ↦{fullShare} f))
            ∗ (xLoc d ↦{q} X) ∗ semVal (tile d i, .dma s.sem) 0 ∗ Ow d i O W) -∗ Wp d i (kk ⟨⟩) Q)
          -∗ Wp d i (await i xV o h M hM s >>= kk) Q) := by
  unfold InFlight Ow
  iintro ⟨⟨%R, Hf, Hxr⟩, ⟨%W', %hW', HO⟩, Hmw⟩ Hk
  iapply (Transfers.wp_waitLocalO countersEmb 𝒱₀ (tile d i) none (none : HIx 1) (dstw := M) (sem := s.sem) rfl) $$ [Hf HO Hmw]
  · isplitl [Hf]; · iexact Hf
    isplitl [HO]; · iexact HO
    iapply (Transfers.MayWaits.elim (SemLoc.dma s.sem)) $$ Hmw
  iintro ⟨⟨Hd, Hxs⟩, Hs, HO⟩
  iapply Hk
  isplitl [Hd]; · iexact Hd
  isplitl [Hxs Hxr]
  · iapply (pointsTo_split_subset (q := q) (f := X) (S := Finset.univ) (Finset.subset_univ R)).2
    isplitl [Hxs] <;> iassumption
  isplitl [Hs]; · iexact Hs
  iexists _; isplitr
  swap; · iexact HO
  ipureintro; intro p hp
  rcases Finset.mem_insert.mp hp with hp | hp
  · exact .inr (hp ▸ rfl)
  · exact hW' p hp

end Cert.Top8
-- ==== Proof.Body.lean ====
/-
  The printed body of the kernel: the first transfer, the outer loop, and the stores and the result row's transfer in the
  form of `Trip`.
-/
module

public import proofs.«01_k».proof.Proof.Trip

@[expose] public section

noncomputable section

namespace Cert.Top8

open Cert.KernelIdeal Cert.KernelIdeal.Gen
open Idealize.ShloMosaic Idealize.SL.Sem

variable {F : FTy → Type} [FloatOps F]

variable (i : grid0.Coords) (arg2 : Memref sig .scVector .hbm S4x8192x1024 .f32) (harg2 : arg2.IsWhole)
  (arg3 : Memref sig .scVector .hbm S32x1024 .f32) (harg3 : arg3.IsWhole)
  (arg4 : Memref sig .scVector .vmem S256x128 .f32) (harg4 : arg4.IsWhole)
  (arg5 : Memref sig .scVector .vmem S256x128 .f32) (harg5 : arg5.IsWhole)
  (arg6 : Memref sig .scVector .vmem S1024 .f32) (harg6 : arg6.IsWhole) (arg7 arg8 v101_r0 : DmaSems sig S_)

/-- Two binds in a row are one, the second's part given by an equation. -/
theorem bind_bind {E : Type → Type} {X Y Z : Type} (p : Prog E X) (f : X → Prog E Y) (g : Y → Prog E Z) (h : X → Prog E Z)
    (hfg : ∀ x, (f x).bind g = h x) : (p.bind f).bind g = p.bind h := by
  refine (Prog.bind_assoc p f g).trans ?_
  exact congrArg p.bind (funext hfg)

set_option maxRecDepth 65536 in
set_option maxHeartbeats 4000000 in
/-- The printed body: the first transfer started, the outer loop from vectors of the initial value, the stores and the
    result row's transfer. -/
theorem kmax_eq :
    cc0_kmax (F := F) i arg2 harg2 arg3 harg3 arg4 harg4 arg5 harg5 arg6 harg6 arg7 arg8 v101_r0
      = (do
        issue i arg2 (k0_off1 i) (k0_off1_inb i) arg4 harg4 arg7
        let y ← Scf.Loop.for k0_t1_loop k0_t1_ok (pack64 fun _ _ => k0_pay1241)
          (k0_t1_body i arg2 harg2 arg3 harg3 arg4 harg4 arg5 harg5 arg6 harg6 arg7 arg8 v101_r0 k0_pay1241 0#32 1#32)
        finish i arg3 arg6 harg6 v101_r0 (unpack64 y)) := by
  refine congrArg (Prog.op _) (funext fun _ => ?_)
  show (k0_part35 i arg2 harg2 arg3 harg3 arg4 harg4 arg5 harg5 arg6 harg6 arg7 arg8 v101_r0 k0_pay1241 0#32 1#32).bind _ = _
  unfold k0_part35
  refine bind_bind _ _ _ (fun y => finish i arg3 arg6 harg6 v101_r0 (unpack64 y)) fun y => ?_
  obtain ⟨y, rfl⟩ : ∃ st : V64 F, y = pack64 st := ⟨unpack64 y, rfl⟩
  rfl

end Cert.Top8
-- ==== Proof.Printed.lean ====
/-
  The printed kernel is the program of `Trip` over eights: the first half of an outer trip, an outer trip, and the whole
  body, each by unfolding.
-/
module

public import proofs.«01_k».proof.Proof.Trip

@[expose] public section

noncomputable section

namespace Cert.Top8

open Cert.KernelIdeal Cert.KernelIdeal.Gen
open Idealize.ShloMosaic Idealize.SL.Sem

variable {F : FTy → Type} [FloatOps F]

variable (i : grid0.Coords) (arg2 : Memref sig .scVector .hbm S4x8192x1024 .f32) (harg2 : arg2.IsWhole)
  (arg3 : Memref sig .scVector .hbm S32x1024 .f32) (harg3 : arg3.IsWhole)
  (arg4 : Memref sig .scVector .vmem S256x128 .f32) (harg4 : arg4.IsWhole)
  (arg5 : Memref sig .scVector .vmem S256x128 .f32) (harg5 : arg5.IsWhole)
  (arg6 : Memref sig .scVector .vmem S1024 .f32) (harg6 : arg6.IsWhole) (arg7 arg8 v101_r0 : DmaSems sig S_)

set_option maxRecDepth 65536 in
set_option maxHeartbeats 4000000 in
/-- The printed first half is `front`. -/
theorem part33_eq (c0 c1 : BitVec 32) (t : Fin k0_t1_loop.trips) (st : V64 F) :
    k0_part33 i arg2 harg2 arg3 harg3 arg4 harg4 arg5 harg5 arg6 harg6 arg7 arg8 v101_r0 c0 c1 t
      (st 0 0) (st 0 1) (st 0 2) (st 0 3) (st 0 4) (st 0 5) (st 0 6) (st 0 7) (st 1 0) (st 1 1) (st 1 2) (st 1 3) (st 1 4) (st 1 5) (st 1 6) (st 1 7) (st 2 0) (st 2 1) (st 2 2) (st 2 3) (st 2 4) (st 2 5) (st 2 6) (st 2 7) (st 3 0) (st 3 1) (st 3 2) (st 3 3) (st 3 4) (st 3 5) (st 3 6) (st 3 7) (st 4 0) (st 4 1) (st 4 2) (st 4 3) (st 4 4) (st 4 5) (st 4 6) (st 4 7) (st 5 0) (st 5 1) (st 5 2) (st 5 3) (st 5 4) (st 5 5) (st 5 6) (st 5 7) (st 6 0) (st 6 1) (st 6 2) (st 6 3) (st 6 4) (st 6 5) (st 6 6) (st 6 7) (st 7 0) (st 7 1) (st 7 2) (st 7 3) (st 7 4) (st 7 5) (st 7 6) (st 7 7)
      = front i arg2 arg4 harg4 arg5 harg5 arg7 arg8 t st := rfl

set_option maxRecDepth 65536 in
set_option maxHeartbeats 4000000 in
/-- The printed outer trip is `outer`. -/
theorem t1_body_eq (v30 : V F) (c0 c1 : BitVec 32) (t : Fin k0_t1_loop.trips) (st : V64 F) :
    k0_t1_body i arg2 harg2 arg3 harg3 arg4 harg4 arg5 harg5 arg6 harg6 arg7 arg8 v101_r0 v30 c0 c1 t (pack64 st)
      = outer i arg2 arg4 harg4 arg5 harg5 arg7 arg8 t st := rfl

end Cert.Top8
-- ==== Proof.Tile.lean ====
/-
  The outer loop of a tile: every trip takes the running eights of all column groups two slabs further, the first buffer's
  next slab being on its way while the second is consumed.
-/
module

public import proofs.«01_k».proof.Proof.Step
public import proofs.«01_k».proof.Proof.Body
public import proofs.«01_k».proof.Proof.Printed

@[expose] public section

noncomputable section

namespace Cert.Top8

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (X : Buf (Elt F) (xLoc d))

/-- All running eights after `n` blocks. -/
def stAt (n : ℕ) : V64 F := fun g => acc (F := F) X (wid i) g n

/-- An inner loop over a buffer holding slab `k`: the running eights of its two column groups taken from `32 k` blocks to
    `32 (k + 1)`. -/
theorem wp_slabPass (M : Memref sig .scVector .vmem S256x128 .f32) {p : ℕ} (P : Pass p) {k : ℕ}
    (f : Buf (Elt F) (M.view.loc (tile d i))) (hf : IsSlab (F := F) X (wid i) k (M.view.read (Elt F) f)) (gA gB : Fin 8)
    (hgA : 32 * p = 16 * gA.val) (hgB : 32 * p + 16 = 16 * gB.val) {ra rb : V8 F}
    (ha : ra = stAt d i X (32 * k) gA) (hb : rb = stAt d i X (32 * k) gB) {β : Type} (kk : T16 F → TileProg F i β)
    (Q : β → sProp 𝕄) :
    (M.view.loc (tile d i) ↦{fullShare} f)
      ⊢ iprop(((M.view.loc (tile d i) ↦{fullShare} f)
            -∗ Wp d i (kk (pack16 (stAt d i X (32 * (k + 1)) gA) (stAt d i X (32 * (k + 1)) gB))) Q)
          -∗ Wp d i (P.run i M ra rb >>= kk) Q) := by
  refine wp_pass d i M P f (fun t => acc (F := F) X (wid i) gA (32 * k + t)) (fun t => acc (F := F) X (wid i) gB (32 * k + t))
    (fun t => ?_) (fun t => ?_) ha hb kk Q
  · have ht : t.val < 32 := lt_of_lt_of_eq t.isLt P.trips
    show topV _ (sortV _) = _
    congr 2
    funext r
    exact (row_cut hf gA r ht hgA (P.eqA t r) (P.hA t r)).symm
  · have ht : t.val < 32 := lt_of_lt_of_eq t.isLt P.trips
    show topV _ (sortV _) = _
    congr 2
    funext r
    exact (row_cut hf gB r ht hgB (P.eqB t r) (P.hB t r)).symm

/-- Eight running eights listed in order are the running eights. -/
theorem list_stAt (n : ℕ) :
    (![lo (pack16 (stAt d i X n 0) (stAt d i X n 1)), hi (pack16 (stAt d i X n 0) (stAt d i X n 1)),
      lo (pack16 (stAt d i X n 2) (stAt d i X n 3)), hi (pack16 (stAt d i X n 2) (stAt d i X n 3)),
      lo (pack16 (stAt d i X n 4) (stAt d i X n 5)), hi (pack16 (stAt d i X n 4) (stAt d i X n 5)),
      lo (pack16 (stAt d i X n 6) (stAt d i X n 7)), hi (pack16 (stAt d i X n 6) (stAt d i X n 7))] : V64 F) = stAt d i X n := by
  simp only [lo_pack16, hi_pack16]
  funext g; fin_cases g <;> rfl

variable (qL qR : PosShare TreeShare) (O : CellTallies nD τ sig (HIx 1)) (W : Waits sig (HIx 1))

/-- The first buffer before trip `n`: its slab on its way, or after the last trip everything at rest. -/
def First (n : ℕ) : sProp 𝕄 :=
  if n < 16 then InFlight d i aV cc0_scratch3 qL X (2 * n)
  else iprop((xLoc d ↦{qL} X) ∗ (∃ f, aV.view.loc (tile d i) ↦{fullShare} f) ∗ semVal (tile d i, .dma cc0_scratch3.sem) 0)

/-- Before trip `n` all running eights stand at `64 n` blocks and the second buffer is at rest. -/
def Inv (n : ℕ) (y : T64 F) : sProp 𝕄 :=
  iprop(⌜y = pack64 (stAt d i X (64 * n))⌝ ∗ First d i X qL n ∗ (xLoc d ↦{qR} X)
    ∗ (∃ f, bV.view.loc (tile d i) ↦{fullShare} f) ∗ semVal (tile d i, .dma cc0_scratch4.sem) 0
    ∗ □ Transfers.MayWaits (tile d i) (none : HIx 1) O ∗ Ow d i O W)

/-- The end of the first half of trip `t`: the second buffer's transfer awaited. -/
theorem wp_frontEnd (t : Fin k0_t1_loop.trips) (Q : S64 F → sProp 𝕄) (A : sProp 𝕄) :
    iprop(A ∗ InFlight d i bV cc0_scratch4 qR X (2 * t.val + 1) ∗ □ Transfers.MayWaits (tile d i) (none : HIx 1) O ∗ Ow d i O W)
      ⊢ iprop(((A
              ∗ (∃ f, ⌜IsSlab (F := F) X (wid i) (2 * t.val + 1) (bV.view.read (Elt F) f)⌝ ∗ (bV.view.loc (tile d i) ↦{fullShare} f))
              ∗ (xLoc d ↦{qR} X) ∗ semVal (tile d i, .dma cc0_scratch4.sem) 0 ∗ Ow d i O W)
            -∗ Q (rec64 (stAt d i X (32 * (2 * t.val + 1)))))
          -∗ Wp d i (await i xV (k0_off2 i t) (k0_off2_inb i t) bV (Memref.isWhole_whole _) cc0_scratch4 >>= fun _ =>
              pure (rec64 (stAt d i X (32 * (2 * t.val + 1))))) Q) := by
  iintro ⟨HA, HfB, #Hmw, HO⟩ Hk
  iapply (wp_await d i bV (Memref.isWhole_whole _) cc0_scratch4 qR X (2 * t.val + 1) O W (k0_off2 i t) (k0_off2_inb i t)) $$ [HfB HO]
  · isplitl [HfB]; · iexact HfB
    isplitl [HO]; · iexact HO
    iexact Hmw
  iintro ⟨Hf, HxR, Hs1, HO⟩
  iapply (wp_done d i)
  iapply Hk
  isplitl [HA]; · iexact HA
  isplitl [Hf]; · iexact Hf
  isplitl [HxR]; · iexact HxR
  isplitl [Hs1]; · iexact Hs1
  iexact HO

/-- The first half of trip `t`: the first buffer's slab consumed, its next one on its way, the second's come. -/
theorem wp_front (t : Fin k0_t1_loop.trips) (Q : S64 F → sProp 𝕄) :
    iprop(First d i X qL t.val ∗ (xLoc d ↦{qR} X) ∗ (∃ f, bV.view.loc (tile d i) ↦{fullShare} f)
        ∗ semVal (tile d i, .dma cc0_scratch4.sem) 0 ∗ □ Transfers.MayWaits (tile d i) (none : HIx 1) O ∗ Ow d i O W)
      ⊢ iprop(((First d i X qL (t.val + 1)
              ∗ (∃ f, ⌜IsSlab (F := F) X (wid i) (2 * t.val + 1) (bV.view.read (Elt F) f)⌝ ∗ (bV.view.loc (tile d i) ↦{fullShare} f))
              ∗ (xLoc d ↦{qR} X) ∗ semVal (tile d i, .dma cc0_scratch4.sem) 0 ∗ Ow d i O W)
            -∗ Q (rec64 (stAt d i X (32 * (2 * t.val + 1)))))
          -∗ Wp d i (front i xV aV (Memref.isWhole_whole _) bV (Memref.isWhole_whole _) cc0_scratch3 cc0_scratch4 t
              (stAt d i X (32 * (2 * t.val)))) Q) := by
  have ht : t.val < 16 := trips_outer ▸ t.isLt
  iintro ⟨Hfirst, HxR, Hb, Hs1, #Hmw, HO⟩ Hk
  unfold front
  iapply (wp_issue d i bV (Memref.isWhole_whole _) cc0_scratch4 qR X (k := 2 * t.val + 1) (by omega) (off2_eq i t)
    (k0_off2_inb i t)) $$ [HxR Hb Hs1]
  · isplitl [HxR]; · iexact HxR
    isplitl [Hb]; · iexact Hb
    iexact Hs1
  iintro HfB
  ihave HfA := (Entails.of_eq (show First d i X qL t.val = InFlight d i aV cc0_scratch3 qL X (2 * t.val) from if_pos ht)) $$ Hfirst
  iapply (wp_await d i aV (Memref.isWhole_whole _) cc0_scratch3 qL X (2 * t.val) O W (k0_off3 i t) (k0_off3_inb i t)) $$ [HfA HO]
  · isplitl [HfA]; · iexact HfA
    isplitl [HO]; · iexact HO
    iexact Hmw
  iintro ⟨⟨%f, %hf, Hf⟩, HxL, Hs0, HO⟩
  iapply (wp_slabPass d i X aV pass2 f hf 0 1 rfl rfl rfl rfl) $$ Hf; iintro Hf
  iapply (wp_slabPass d i X aV pass3 f hf 2 3 rfl rfl rfl rfl) $$ Hf; iintro Hf
  iapply (wp_slabPass d i X aV pass4 f hf 4 5 rfl rfl rfl rfl) $$ Hf; iintro Hf
  iapply (wp_slabPass d i X aV pass5 f hf 6 7 rfl rfl rfl rfl) $$ Hf; iintro Hf
  rw [list_stAt]
  by_cases h : k0_cond1 t = 1#1
  · rw [dif_pos h]
    have h1 := (cond1_iff t).mp h
    iapply (wp_issue d i aV (Memref.isWhole_whole _) cc0_scratch3 qL X (k := 2 * (t.val + 1)) (by omega)
      ((off12_eq i t).trans (by rw [show 2 * t.val + 2 = 2 * (t.val + 1) by omega])) (k0_off12_inb i t h)) $$ [HxL Hf Hs0]
    · isplitl [HxL]; · iexact HxL
      isplitl [Hf]; · iexists _; iexact Hf
      iexact Hs0
    iintro HfA
    ihave HfA := (Entails.of_eq (show InFlight d i aV cc0_scratch3 qL X (2 * (t.val + 1)) = First d i X qL (t.val + 1)
      from (if_pos h1).symm)) $$ HfA
    iapply (wp_frontEnd d i X qR O W t Q (First d i X qL (t.val + 1))) $$ [HfA HfB HO]
    · isplitl [HfA]; · iexact HfA
      isplitl [HfB]; · iexact HfB
      isplitr; · iexact Hmw
      iexact HO
    iexact Hk
  · rw [dif_neg h]
    have h1 : ¬ t.val + 1 < 16 := fun h' => h ((cond1_iff t).mpr h')
    iapply (wp_frontEnd d i X qR O W t Q (First d i X qL (t.val + 1))) $$ [HxL Hf Hs0 HfB HO]
    · isplitl [HxL Hf Hs0]
      · unfold First
        rw [if_neg h1]
        isplitl [HxL]; · iexact HxL
        isplitl [Hf]; · iexists _; iexact Hf
        iexact Hs0
      isplitl [HfB]; · iexact HfB
      isplitr; · iexact Hmw
      iexact HO
    iexact Hk

/-- A whole trip keeps the invariant. -/
theorem wp_outer (t : Fin k0_t1_loop.trips) (y : T64 F) :
    Inv d i X qL qR O W t.val y
      ⊢ Wp d i (k0_t1_body i xV (Memref.isWhole_whole _) oV (Memref.isWhole_whole _) aV (Memref.isWhole_whole _) bV
          (Memref.isWhole_whole _) rV (Memref.isWhole_whole _) cc0_scratch3 cc0_scratch4 cc0_scoped0 k0_pay1241 0#32 1#32 t y)
        (Inv d i X qL qR O W (t.val + 1)) := by
  unfold Inv
  iintro ⟨%hy, Hfirst, HxR, Hb, Hs1, #Hmw, HO⟩
  subst hy
  rw [t1_body_eq, show 64 * t.val = 32 * (2 * t.val) by omega]
  unfold outer
  unfold Wp
  rw [wp_bind]
  iapply (wp_front d i X qL qR O W t _) $$ [Hfirst HxR Hb Hs1 HO]
  · isplitl [Hfirst]; · iexact Hfirst
    isplitl [HxR]; · iexact HxR
    isplitl [Hb]; · iexact Hb
    isplitl [Hs1]; · iexact Hs1
    isplitr; · iexact Hmw
    iexact HO
  iintro ⟨Hfirst, ⟨%f, %hf, Hf⟩, HxR, Hs1, HO⟩
  rw [unrec64_rec64]
  iapply (wp_slabPass d i X bV pass6 f hf 0 1 rfl rfl rfl rfl) $$ Hf; iintro Hf
  iapply (wp_slabPass d i X bV pass7 f hf 2 3 rfl rfl rfl rfl) $$ Hf; iintro Hf
  iapply (wp_slabPass d i X bV pass8 f hf 4 5 rfl rfl rfl rfl) $$ Hf; iintro Hf
  iapply (wp_slabPass d i X bV pass9 f hf 6 7 rfl rfl rfl rfl) $$ Hf; iintro Hf
  rw [list_stAt]
  iapply (wp_done d i)
  isplitr
  · ipureintro
    rw [show 32 * (2 * t.val + 1 + 1) = 64 * (t.val + 1) by omega]
  isplitl [Hfirst]; · iexact Hfirst
  isplitl [HxR]; · iexact HxR
  isplitl [Hf]; · iexists _; iexact Hf
  isplitl [Hs1]; · iexact Hs1
  isplitr; · iexact Hmw
  iexact HO

/-- The outer loop: from the initial vectors to the running eights of all 1024 blocks, everything at rest again. -/
theorem wp_loop {β : Type} (k : T64 F → TileProg F i β) (Q : β → sProp 𝕄) :
    Inv d i X qL qR O W 0 (pack64 fun _ _ => k0_pay1241)
      ⊢ iprop((Inv d i X qL qR O W 16 (pack64 (stAt d i X 1024)) -∗ Wp d i (k (pack64 (stAt d i X 1024))) Q)
          -∗ Wp d i (Scf.Loop.for k0_t1_loop k0_t1_ok (pack64 fun _ _ => k0_pay1241)
            (k0_t1_body i xV (Memref.isWhole_whole _) oV (Memref.isWhole_whole _) aV (Memref.isWhole_whole _) bV
              (Memref.isWhole_whole _) rV (Memref.isWhole_whole _) cc0_scratch3 cc0_scratch4 cc0_scoped0 k0_pay1241 0#32 1#32)
            >>= k) Q) := by
  iintro H Hk
  unfold Scf.Loop.for
  iapply (Scf.wp_for_bind (M := 𝕄) _ _ Set.univ k0_t1_loop.lb k0_t1_loop.ub k0_t1_loop.st k0_t1_ok
    (pack64 fun _ _ => k0_pay1241) _ (Inv d i X qL qR O W) (wp_outer d i X qL qR O W)) $$ [H]
  · iexact H
  iintro %y H
  rw [show Scf.trips k0_t1_loop.lb k0_t1_loop.ub k0_t1_loop.st = 16 from trips_outer]
  ihave H' := (show Inv d i X qL qR O W 16 y
      ⊢ iprop(⌜y = pack64 (stAt d i X 1024)⌝ ∗ Inv d i X qL qR O W 16 y) by
    unfold Inv
    iintro ⟨%hy, H⟩
    isplitr
    · ipureintro; exact hy
    isplitr
    · ipureintro; exact hy
    iexact H) $$ H
  icases H' with ⟨%hy, H⟩
  subst hy
  iapply Hk
  iexact H

end Cert.Top8
-- ==== Proof.Stores.lean ====
/-
  The end of a tile: the sixty-four vectors stored in the result vector, and the vector's transfer to the tile's row.
-/
module

public import proofs.«01_k».proof.Proof.Step

@[expose] public section

noncomputable section

namespace Cert.Top8

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)

/-- The lane of a position. -/
def lane (y : S1024.Idx) : S16.Idx := fun a => ⟨(y 0).val % 16, by
  have : S16.size a = 16 := by revert a; decide
  omega⟩

/-- The window of sixteen positions of rank `j` of group `g`. -/
abbrev outWin (g j : Fin 8) : Rect S1024 := Rect.unit (s := S1024) ![128 * j.val + 16 * g.val] S16.size (inbOut g j)

/-- Vector `v` put at the positions of rank `j` of group `g`. -/
def put (f : Vec F S1024 .f32) (g j : Fin 8) (v : V F) : Vec F S1024 .f32 := fun y =>
  if (y 0).val / 16 = 8 * j.val + g.val then v (lane y) else f y

/-- A store of one vector puts it there. -/
theorem write_eq_put (f : Vec F S1024 .f32) (g j : Fin 8) (v : V F) :
    (rV.access (outWin g j)).write (Elt F) f v Finset.univ = put f g j v := by
  have hemb : ∀ x : S16.Idx, (((rV.access (outWin g j)).emb x : S1024.Idx) 0).val = 128 * j.val + 16 * g.val + 1 * (x 0).val :=
    fun _ => rfl
  have hx : ∀ x : S16.Idx, (x 0).val < 16 := fun x => (x 0).isLt
  have hg : g.val < 8 := g.isLt
  funext y
  by_cases hy : (y 0).val / 16 = 8 * j.val + g.val
  · have hl : ((lane y) 0).val = (y 0).val % 16 := rfl
    have e : (rV.access (outWin g j)).emb (lane y) = y := by
      funext a
      match a with
      | 0 =>
        refine Fin.ext ((hemb (lane y)).trans ?_)
        rw [hl]; omega
    have w := View.write_emb_of_mem (v := rV.access (outWin g j)) (Val := Elt F) f v (M := Finset.univ) (Finset.mem_univ (lane y))
    rw [e] at w
    rw [w]
    unfold put
    rw [if_pos hy]
    rfl
  · rw [View.write_of_not_mem]
    · unfold put
      rw [if_neg hy]
    · intro hm
      obtain ⟨x, -, rfl⟩ := Finset.mem_map.mp hm
      apply hy
      have := hemb x
      have := hx x
      omega

/-- One vector stored. -/
theorem wp_storeOne (g j : Fin 8) (v : V F) (f : Buf (Elt F) (rV.view.loc (tile d i))) {β : Type}
    (k : PUnit → TileProg F i β) (Q : β → sProp 𝕄) :
    (rV.view.loc (tile d i) ↦{fullShare} f)
      ⊢ iprop(((rV.view.loc (tile d i) ↦{fullShare} put (F := F) f g j v) -∗ Wp d i (k ⟨⟩) Q)
          -∗ Wp d i (storeOne i rV g j v >>= k) Q) := by
  iintro Hf Hk
  unfold storeOne
  iapply (wp_load (Q := Q) (defs := defs₀ (F := F)) 𝒱₀ (tile d i) none Set.univ (m := rV)
    (r := (outWin g j).toLoadRect) (hl := View.loadsAt_vmem h_S16) (q := fullShare) (f := f)
    (S := Finset.univ) (Finset.subset_univ _)) $$ Hf
  iintro Hf
  iapply (wp_store (Q := Q) (defs := defs₀ (F := F)) 𝒱₀ (tile d i) none Set.univ (m := rV)
    (r := outWin g j) (w := v) (Mk := Finset.univ) (f := f) (S := Finset.univ) (Finset.subset_univ _)) $$ Hf
  iintro Hf
  iapply Hk
  rw [← write_eq_put]
  iexact Hf

/-- The contents after the listed stores. -/
def puts (st : V64 F) : List (Fin 8 × Fin 8) → Vec F S1024 .f32 → Vec F S1024 .f32
  | [], f => f
  | p :: l, f => puts st l (put f p.1 p.2 (st p.1 p.2))

/-- The listed stores made. -/
theorem wp_storeList (st : V64 F) (l : List (Fin 8 × Fin 8)) (f : Buf (Elt F) (rV.view.loc (tile d i))) {β : Type}
    (k : PUnit → TileProg F i β) (Q : β → sProp 𝕄) :
    (rV.view.loc (tile d i) ↦{fullShare} f)
      ⊢ iprop(((rV.view.loc (tile d i) ↦{fullShare} puts (F := F) st l f) -∗ Wp d i (k ⟨⟩) Q)
          -∗ Wp d i (storeList i rV st l >>= k) Q) := by
  induction l generalizing f with
  | nil =>
    iintro Hf Hk
    iapply Hk; iexact Hf
  | cons p l ih =>
    have e : (storeList i rV st (p :: l) >>= k)
      = (storeOne i rV p.1 p.2 (st p.1 p.2) >>= fun _ => (storeList i rV st l >>= k)) := Prog.bind_assoc _ _ _
    rw [e]
    iintro Hf Hk
    iapply (wp_storeOne d i p.1 p.2 (st p.1 p.2) f _ Q) $$ Hf; iintro Hf
    iapply (ih (put (F := F) f p.1 p.2 (st p.1 p.2))) $$ Hf
    iexact Hk

/-- Every (group, rank) pair is listed. -/
theorem mem_pairs (g j : Fin 8) : (g, j) ∈ pairs := by revert g j; decide

/-- What the listed stores leave at a position. -/
theorem puts_apply (st : V64 F) (l : List (Fin 8 × Fin 8)) (f : Vec F S1024 .f32) (g j : Fin 8) (y : S1024.Idx)
    (hy : (y 0).val / 16 = 8 * j.val + g.val) (h : (g, j) ∈ l ∨ f y = st g j (lane y)) :
    puts st l f y = st g j (lane y) := by
  induction l generalizing f with
  | nil => exact h.resolve_left (List.not_mem_nil)
  | cons p l ih =>
    refine ih _ ?_
    by_cases hp : p = (g, j)
    · right
      subst hp
      unfold put
      rw [if_pos hy]
    · rcases h with h | h
      · left
        exact (List.mem_cons.mp h).resolve_left fun e => hp e.symm
      · right
        unfold put
        rw [if_neg, h]
        intro e
        apply hp
        have hg : g.val < 8 := g.isLt
        have hg' : p.1.val < 8 := p.1.isLt
        exact Prod.ext (Fin.ext (by show p.1.val = g.val; omega)) (Fin.ext (by show p.2.val = j.val; omega))

/-- After all stores the result vector is the tile's row of the result. -/
theorem puts_pairs (X : Vec F S4x8192x1024 .f32) (w : ℕ) (f : Vec F S1024 .f32) :
    puts (fun g => acc X w g 1024) pairs f = outRow X w := by
  funext y
  have h0 : (y 0).val < 1024 := (y 0).isLt
  exact puts_apply _ _ f ⟨(y 0).val % 128 / 16, by omega⟩ ⟨(y 0).val / 128, by omega⟩ y
    (by show (y 0).val / 16 = 8 * ((y 0).val / 128) + (y 0).val % 128 / 16; omega) (.inl (mem_pairs _ _))

/-- A position of the result vector from its number. -/
def at1 (n : Fin 1024) : S1024.Idx := fun a => match a with
  | 0 => n

/-- The whole result of the SparseCores: row `w` is tile `w`'s. -/
def res (X : Vec F S4x8192x1024 .f32) : Vec F S32x1024 .f32 := fun y => outRow X (y 0).val (at1 (y 1))

/-- The elements of row `w` of the result. -/
def rowSet (w : ℕ) : Finset S32x1024.Idx := Finset.univ.filter fun y => (y 0).val = w

/-- A tile's row of the result starts at its number. -/
theorem off21_eq : ∀ i, k0_off21 i = ![wid i, 0] := fun i => k0_off21_eq i

/-- Where the window of the tile's row puts position `z`. -/
theorem outRef_emb (z : S1024.Idx) :
    ((((outRef i oV).view.emb z : S32x1024.Idx) 0).val = wid i) ∧ ((((outRef i oV).view.emb z : S32x1024.Idx) 1).val = (z 0).val) := by
  have e : (Shape.reshapeEquiv squeezes_S1x1024_S1024.numel_eq z : S1x1024.Idx) = Fin.cons ⟨0, Nat.one_pos⟩ z :=
    Shape.reshapeEquiv_cons_one (d := ![1024]) _ z
  have h : (outRef i oV).view.emb z = (Rect.unit (s := S32x1024) (k0_off21 i) S1x1024.size (k0_off21_inb i)).toLoadRect.idx
    (Shape.reshapeEquiv squeezes_S1x1024_S1024.numel_eq z) := rfl
  rw [h, e]
  constructor
  · show k0_off21 i 0 + 1 * 0 = _
    rw [off21_eq]; rfl
  · show k0_off21 i 1 + 1 * (z 0).val = _
    rw [off21_eq]
    show 0 + 1 * (z 0).val = _
    omega

/-- The window of the tile's row covers the row. -/
theorem outRef_set : (outRef i oV).view.set = rowSet (wid i) := by
  ext y
  constructor
  · intro h
    obtain ⟨z, -, rfl⟩ := Finset.mem_map.mp h
    exact Finset.mem_filter.mpr ⟨Finset.mem_univ _, (outRef_emb i z).1⟩
  · intro h
    have h0 : (y 0).val = wid i := (Finset.mem_filter.mp h).2
    refine Finset.mem_map.mpr ⟨at1 (y 1), Finset.mem_univ _, ?_⟩
    have e := outRef_emb i (at1 (y 1))
    funext a
    match a with
    | 0 => exact Fin.ext (e.1.trans h0.symm)
    | 1 => exact Fin.ext e.2

/-- The tile's row written from its result vector is the row of the whole result. -/
theorem outRef_write (X : Vec F S4x8192x1024 .f32) (g : Vec F S32x1024 .f32) :
    ∀ y ∈ rowSet (wid i), (outRef i oV).view.write (Elt F) g (outRow X (wid i)) Finset.univ y = res X y := by
  intro y hy
  rw [← outRef_set] at hy
  obtain ⟨z, -, rfl⟩ := Finset.mem_map.mp hy
  rw [View.write_emb_of_mem _ _ (Finset.mem_univ z)]
  have e := outRef_emb i z
  show outRow X (wid i) z = outRow X (((outRef i oV).view.emb z : S32x1024.Idx) 0).val (at1 (((outRef i oV).view.emb z : S32x1024.Idx) 1))
  rw [e.1]
  congr 1
  funext a
  match a with
  | 0 => exact Fin.ext e.2.symm

/-- The result vector's transfer to the tile's row, awaited. -/
theorem wp_sendRow (X : Buf (Elt F) (xLoc d)) (O : CellTallies nD τ sig (HIx 1)) (W : Waits sig (HIx 1)) (g : Buf (Elt F) (oLoc d))
    (u : Buf (Elt F) (rV.view.loc (tile d i)))
    (hu : ∀ y ∈ rowSet (wid i), (outRef i oV).view.write (Elt F) g (rV.view.read (Elt F) u) Finset.univ y = res (F := F) X y)
    (k : PUnit → TileProg F i PUnit) (Q : PUnit → sProp 𝕄) :
    iprop((rV.view.loc (tile d i) ↦{fullShare} u) ∗ (oLoc d ↦[rowSet (wid i)]{fullShare} g)
        ∗ semVal (tile d i, .dma cc0_scoped0.sem) 0 ∗ □ Transfers.MayWaits (tile d i) (none : HIx 1) O ∗ Ow d i O W)
      ⊢ iprop((((∃ f, rV.view.loc (tile d i) ↦{fullShare} f) ∗ (oLoc d ↦[rowSet (wid i)]{fullShare} res (F := F) X)
              ∗ semVal (tile d i, .dma cc0_scoped0.sem) 0 ∗ Ow d i O W) -∗ Wp d i (k ⟨⟩) Q)
          -∗ Wp d i (Prog.lift (.enqueueDma rV (.here (outRef i oV)) (.dma cc0_scoped0.sem) (Memref.isWhole_whole cc0_scratch2).wordExact
                ((View.wordExact_bits rfl).reshape _ _) ⟨Or.inl rfl, trivial⟩) >>= fun _ =>
              Prog.lift (.waitDma2 cc0_scoped0.sem rV (outRef i oV) (Memref.isWhole_whole cc0_scratch2).wordExact
                ((View.wordExact_bits rfl).reshape _ _)) >>= k) Q) := by
  unfold Ow
  iintro ⟨Hf, Ho, Hs, #Hmw, ⟨%W', %hW', HO⟩⟩ Hk
  iapply (Transfers.wp_dmaLocal countersEmb 𝒱₀ (tile d i) none (src := rV) (dst := outRef i oV) (via := .same)
    (sm := .dma cc0_scoped0.sem) (Sd := rowSet (wid i)) (fs := u) (fd := g) (q := fullShare) (none : HIx 1)
    (outRef i oV).view.dmaCredit rfl
    (show 0 < (outRef i oV).view.amount (.dma cc0_scoped0.sem) from View.amount_pos _ _ (show 0 < S1024.numel by decide))
    (outRef_set i).le) $$ [Hf Ho Hs]
  · isplitl [Hf]
    · rw [show rV.view.set = Finset.univ from View.set_whole _]
      iexact Hf
    isplitl [Ho]; · iexact Ho
    iexact Hs
  iintro Hfl
  iapply (Transfers.wp_waitLocalO countersEmb 𝒱₀ (tile d i) none (none : HIx 1) (dstw := outRef i oV) (sem := cc0_scoped0.sem) rfl) $$ [Hfl HO]
  · isplitl [Hfl]; · iexact Hfl
    isplitl [HO]; · iexact HO
    iapply (Transfers.MayWaits.elim (SemLoc.dma cc0_scoped0.sem)) $$ Hmw
  iintro ⟨⟨Ho, Hf⟩, Hs, HO⟩
  iapply Hk
  isplitl [Hf]
  · iexists _
    rw [show rV.view.set = Finset.univ from View.set_whole _]
    iexact Hf
  isplitl [Ho]
  · iapply (Entails.of_eq (pointsTo_congr (q := fullShare) (fun y hy => hu y hy))) $$ Ho
  isplitl [Hs]; · iexact Hs
  iexists _; isplitr
  swap; · iexact HO
  ipureintro; intro p hp
  rcases Finset.mem_insert.mp hp with hp | hp
  · exact .inr (hp ▸ rfl)
  · exact hW' p hp

/-- The stores and the result row's transfer, from the running eights of all blocks. -/
theorem wp_finish (X : Buf (Elt F) (xLoc d)) (O : CellTallies nD τ sig (HIx 1)) (W : Waits sig (HIx 1)) (g : Buf (Elt F) (oLoc d))
    (Q : PUnit → sProp 𝕄) :
    iprop((∃ f, rV.view.loc (tile d i) ↦{fullShare} f) ∗ (oLoc d ↦[rowSet (wid i)]{fullShare} g)
        ∗ semVal (tile d i, .dma cc0_scoped0.sem) 0 ∗ □ Transfers.MayWaits (tile d i) (none : HIx 1) O ∗ Ow d i O W)
      ⊢ iprop((((∃ f, rV.view.loc (tile d i) ↦{fullShare} f) ∗ (oLoc d ↦[rowSet (wid i)]{fullShare} res (F := F) X)
              ∗ semVal (tile d i, .dma cc0_scoped0.sem) 0 ∗ Ow d i O W) -∗ Q ⟨⟩)
          -∗ Wp d i (finish i oV rV (Memref.isWhole_whole _) cc0_scoped0 (fun g => acc (F := F) X (wid i) g 1024)) Q) := by
  iintro ⟨⟨%f, Hf⟩, Ho, Hs, #Hmw, HO⟩ Hk
  unfold finish
  iapply (wp_storeList d i _ pairs f) $$ Hf; iintro Hf
  iapply (wp_sendRow d i X O W g _ (fun y hy => by
    rw [show rV.view.read (Elt F) (puts (F := F) (fun g => acc (F := F) X (wid i) g 1024) pairs f)
      = outRow (F := F) X (wid i) from puts_pairs X (wid i) f]
    exact outRef_write i X g y hy) (fun _ => pure ⟨⟩) Q) $$ [Hf Ho Hs HO]
  · isplitl [Hf]; · iexact Hf
    isplitl [Ho]; · iexact Ho
    isplitl [Hs]; · iexact Hs
    isplitr; · iexact Hmw
    iexact HO
  iintro H
  iapply (wp_done d i)
  iapply Hk
  iexact H

end Cert.Top8
-- ==== Proof.TileBody.lean ====
/-
  One tile's whole run: from a share of the operand and its row of the result, to the row holding the running eights of
  all blocks.
-/
module

public import proofs.«01_k».proof.Proof.Tile
public import proofs.«01_k».proof.Proof.Stores

@[expose] public section

noncomputable section

namespace Cert.Top8

open Cert.KernelIdeal Cert.KernelIdeal.Gen

open Idealize.ShloMosaic
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)

/-- A tile's cell of a DMA semaphore. -/
abbrev cell (s : DmaSems sig S_) : GSem nD τ sig := (tile d i, .dma s.sem)

/-- The three semaphores of the kernel are among the tile's own: they are they, at zero, and the rest. -/
theorem ownSems0_tile :
    (ownSems0 (tile d i) : sProp 𝕄)
      = iprop(semVal (cell d i cc0_scratch3) 0 ∗ semVal (cell d i cc0_scratch4) 0 ∗ semVal (cell d i cc0_scoped0) 0
          ∗ bigSep ((((ownCells (tile d i)).erase (cell d i cc0_scratch3)).erase (cell d i cc0_scratch4)).erase (cell d i cc0_scoped0))
              fun g => semVal g 0) := by
  unfold SparseCore.Cfg.ownSems0
  rw [SparseCore.bigSep_erase' ((mem_ownCells (g := cell d i cc0_scratch3)).mpr ⟨rfl, by
      show (SemLoc.dma cc0_scratch3.sem : SemLoc sig).isScoped .scVector = true; decide⟩),
    SparseCore.bigSep_erase' (Finset.mem_erase.mpr ⟨by simp [cell]; decide, (mem_ownCells (g := cell d i cc0_scratch4)).mpr ⟨rfl, by
      show (SemLoc.dma cc0_scratch4.sem : SemLoc sig).isScoped .scVector = true; decide⟩⟩),
    SparseCore.bigSep_erase' (Finset.mem_erase.mpr ⟨by simp [cell]; decide, Finset.mem_erase.mpr ⟨by simp [cell]; decide,
      (mem_ownCells (g := cell d i cc0_scoped0)).mpr ⟨rfl, by
        show (SemLoc.dma cc0_scoped0.sem : SemLoc sig).isScoped .scVector = true; decide⟩⟩⟩)]

/-- The three scratch buffers are among the tile's own: they are they, at some contents, and the rest. -/
theorem ownBufs_tile :
    (ownBufs (tile d i) : sProp 𝕄)
      = iprop((∃ f, aV.view.loc (tile d i) ↦{fullShare} f) ∗ (∃ f, bV.view.loc (tile d i) ↦{fullShare} f)
          ∗ (∃ f, rV.view.loc (tile d i) ↦{fullShare} f)
          ∗ bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e)
      (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩),
    SparseCore.bigSep_erase' (Finset.mem_erase.mpr ⟨fun e => absurd (Proc.devRef_injective _ e)
      (show (cc0_scratch2 : Ref sig .scVector) ≠ cc0_scratch1 by decide),
    Finset.mem_erase.mpr ⟨fun e => absurd (Proc.devRef_injective _ e)
      (show (cc0_scratch2 : Ref sig .scVector) ≠ cc0_scratch0 by decide),
    SparseCore.Cfg.mem_ownRefs_of_owner (p := Proc.scVector (cV i) (jV i)) (b := (Proc.scVector (cV i) (jV i)).devRef cc0_scratch2) rfl⟩⟩)]

/-- The kernel's function on one tile: from a share of the operand and the tile's row of the result, back the share and the
    row holding what the row of the whole result holds. -/
theorem tile_body (hF : (K (F := F)).Facts) (X : Buf (Elt F) (xLoc d)) (g : Buf (Elt F) (oLoc d)) (q : PosShare TreeShare)
    (O : CellTallies nD τ sig (HIx 1)) (W : Waits sig (HIx 1)) (hO : ∀ g, O g none = 0) :
    (iprop(levAts (K (F := F)).L (K (F := F)).lev ∗ emp
        ∗ ((xLoc d ↦{q} X) ∗ (oLoc d ↦[rowSet (wid i)]{fullShare} g))
        ∗ scopedBufs (tile d i) ∗ scopedSems0 (tile d i) ∗ owes (tile d i) O W) : sProp 𝕄)
      ⊢ wp frame (wpE (defs₀ (F := F)) 𝒱₀ (tile d i) none) Set.univ
          (cc0_kmax i xV (Memref.isWhole_whole _) oV (Memref.isWhole_whole _) aV (Memref.isWhole_whole _) bV (Memref.isWhole_whole _)
            rV (Memref.isWhole_whole _) cc0_scratch3 cc0_scratch4 cc0_scoped0)
          fun _ => iprop(((xLoc d ↦{q} X) ∗ (oLoc d ↦[rowSet (wid i)]{fullShare} res (F := F) X))
            ∗ scopedBufs (tile d i) ∗ scopedSems0 (tile d i)
            ∗ ∃ W', ⌜∀ p ∈ W', p ∈ W ∨ p.2 = none⌝ ∗ owes (tile d i) O W') := by
  rw [kmax_eq, (K (F := F)).scopedBufs_V hF d (cV i) (jV i), SparseCore.Cfg.scopedSems0_V (Val := Elt F) d (cV i) (jV i),
    ownSems0_tile, ownBufs_tile]
  iintro ⟨#Hlv, -, ⟨Hx, Ho⟩, ⟨Ha, Hb, Hr, Hbufs⟩, ⟨Hs0, Hs1, Hs2, Hsems⟩, HO⟩
  ihave #Hmw := (show (levAts (K (F := F)).L (K (F := F)).lev : sProp 𝕄) ⊢ Transfers.MayWaits (tile d i) (none : HIx 1) O from
    (K (F := F)).mayWaits_none (thr := tile d i) hO) $$ Hlv
  ihave Hx' := (pointsTo_share (PosShare.mem_left_op_right q)).1 $$ Hx
  icases Hx' with ⟨HxL, HxR⟩
  ihave HO := (show (owes (tile d i) O W : sProp 𝕄) ⊢ Ow d i O W by
    unfold Ow
    iintro H
    iexists W; isplitr
    · ipureintro; exact fun p hp => .inl hp
    · iexact H) $$ HO
  iapply (wp_issue d i aV (Memref.isWhole_whole _) cc0_scratch3 q.left X (k := 0) (by omega) (off1_eq i) (k0_off1_inb i)) $$ [HxL Ha Hs0]
  · isplitl [HxL]; · iexact HxL
    isplitl [Ha]; · iexact Ha
    iexact Hs0
  iintro HfA
  iapply (wp_loop d i X q.left q.right O W) $$ [HfA HxR Hb Hs1 HO]
  · unfold Inv
    isplitr
    · ipureintro; rfl
    isplitl [HfA]
    · unfold First
      rw [if_pos (by omega)]
      iexact HfA
    isplitl [HxR]; · iexact HxR
    isplitl [Hb]; · iexact Hb
    isplitl [Hs1]; · iexact Hs1
    isplitr; · iexact Hmw
    iexact HO
  unfold Inv
  iintro ⟨-, Hfirst, HxR, Hb, Hs1, -, HO⟩
  ihave Hfirst := (Entails.of_eq (show First d i X q.left 16
      = iprop((xLoc d ↦{q.left} X) ∗ (∃ f, aV.view.loc (tile d i) ↦{fullShare} f) ∗ semVal (tile d i, .dma cc0_scratch3.sem) 0)
    from if_neg (by omega))) $$ Hfirst
  icases Hfirst with ⟨HxL, Ha, Hs0⟩
  rw [unpack64_pack64]
  iapply (wp_finish d i X O W g) $$ [Hr Ho Hs2 HO]
  · isplitl [Hr]; · iexact Hr
    isplitl [Ho]; · iexact Ho
    isplitl [Hs2]; · iexact Hs2
    isplitr; · iexact Hmw
    iexact HO
  iintro ⟨Hr, Ho, Hs2, HO⟩
  isplitl [HxL HxR Ho]
  · isplitl [HxL HxR]
    · iapply (pointsTo_share (PosShare.mem_left_op_right q)).2
      isplitl [HxL] <;> iassumption
    iexact Ho
  isplitl [Ha Hb Hr Hbufs]
  · isplitl [Ha]; · iexact Ha
    isplitl [Hb]; · iexact Hb
    isplitl [Hr]; · iexact Hr
    iexact Hbufs
  isplitl [Hs0 Hs1 Hs2 Hsems]
  · isplitl [Hs0]; · iexact Hs0
    isplitl [Hs1]; · iexact Hs1
    isplitl [Hs2]; · iexact Hs2
    iexact Hsems
  unfold Ow
  iexact HO

end Cert.Top8
-- ==== Proof.Launch.lean ====
/-
  The whole program's run: the operand's shares and the result's rows dealt to the thirty-two tiles, the call, and the three
  rearrangements of the result on the host.
-/
module

public import proofs.«01_k».proof.Proof.TileBody

@[expose] public section

noncomputable section

namespace Cert.Top8

open Cert.KernelIdeal Cert.KernelIdeal.Gen

open Idealize.ShloMosaic
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The operand's shares -/

/-- Three assertions with the second moved first. -/
theorem sep_swap (A B C : sProp 𝕄) : iprop(A ∗ B ∗ C) = iprop((B ∗ A) ∗ C) :=
  BI.Entails.antisymm
    (show iprop(A ∗ B ∗ C) ⊢ iprop((B ∗ A) ∗ C) by
      iintro ⟨H, H1, H2⟩
      isplitl [H H1]
      · isplitl [H1] <;> iassumption
      · iexact H2)
    (show iprop((B ∗ A) ∗ C) ⊢ iprop(A ∗ B ∗ C) by
      iintro ⟨⟨H1, H⟩, H2⟩
      isplitl [H]; · iexact H
      isplitl [H1] <;> iassumption)

/-- Three assertions with the last two exchanged. -/
theorem sep_swap' (A B C : sProp 𝕄) : iprop((A ∗ B) ∗ C) = iprop((A ∗ C) ∗ B) :=
  BI.Entails.antisymm
    (show iprop((A ∗ B) ∗ C) ⊢ iprop((A ∗ C) ∗ B) by
      iintro ⟨⟨H, H1⟩, H2⟩
      isplitl [H H2]
      · isplitl [H] <;> iassumption
      · iexact H1)
    (show iprop((A ∗ C) ∗ B) ⊢ iprop((A ∗ B) ∗ C) by
      iintro ⟨⟨H, H1⟩, H2⟩
      isplitl [H H2]
      · isplitl [H] <;> iassumption
      · iexact H1)

/-- What is left of share `q` after `n` pieces are cut off it. -/
def rest (q : PosShare TreeShare) : ℕ → PosShare TreeShare
  | 0 => q
  | n + 1 => (rest q n).right

/-- Piece `n` cut off share `q`. -/
def piece (q : PosShare TreeShare) (n : ℕ) : PosShare TreeShare := (rest q n).left

/-- Elements held at a share are held at its first `n` pieces and what is left. -/
theorem pointsTo_pieces {ℓ : Loc nD τ sig} (I : Finset (Idx ℓ)) (f : Buf (Elt F) ℓ) (q : PosShare TreeShare) (n : ℕ) :
    (ℓ ↦[I]{q} f : sProp 𝕄) = iprop((bigSep (Finset.range n) fun w => ℓ ↦[I]{piece q w} f) ∗ (ℓ ↦[I]{rest q n} f)) := by
  induction n with
  | zero =>
    rw [Finset.range_zero, bigSep_empty]
    exact (BI.Entails.antisymm emp_sep.1 emp_sep.2).symm
  | succ n ih =>
    have e : (ℓ ↦[I]{rest q n} f : sProp 𝕄) = iprop((ℓ ↦[I]{piece q n} f) ∗ (ℓ ↦[I]{rest q (n + 1)} f)) :=
      BI.Entails.antisymm (pointsTo_share (PosShare.mem_left_op_right _)).1 (pointsTo_share (PosShare.mem_left_op_right _)).2
    rw [ih, e, Finset.range_add_one, SparseCore.bigSep_insert' Finset.notMem_range_self]
    exact sep_swap _ _ _

/-! ## The result's rows -/

/-- The thirty-two rows make up the result. -/
theorem rows_whole (d : Dev nD) (f : Buf (Elt F) (oLoc d)) :
    (oLoc d ↦{fullShare} f : sProp 𝕄) = bigSep (Finset.range 32) fun w => oLoc d ↦[rowSet w]{fullShare} f := by
  rw [← pointsTo_biUnion (Finset.range 32) (ℓ := oLoc d) rowSet ?_]
  · rw [show (Finset.range 32).biUnion rowSet = Finset.univ from Finset.eq_univ_iff_forall.mpr fun y =>
      Finset.mem_biUnion.mpr ⟨(y 0).val, Finset.mem_range.mpr (y 0).isLt, Finset.mem_filter.mpr ⟨Finset.mem_univ _, rfl⟩⟩]
  · intro a _ b _ hab
    refine Finset.disjoint_left.mpr fun y ha hb => hab ?_
    exact (Finset.mem_filter.mp ha).2.symm.trans (Finset.mem_filter.mp hb).2

/-! ## What each tile takes and brings -/

/-- Tile `w`'s piece of the operand and its row of the result, the row out of `f`. -/
def tilePts (d : Dev nD) (f : Buf (Elt F) (oLoc d)) (w : ℕ) : sProp 𝕄 :=
  iprop((xLoc d ↦{piece fullShare w} m (xLoc d)) ∗ (oLoc d ↦[rowSet w]{fullShare} f))

/-- A tile's piece and row may be handed over. -/
instance tilePts_storable (d : Dev nD) (f : Buf (Elt F) (oLoc d)) (w : ℕ) :
    BI.Storable (upEmb : UEmb _ 𝕄) (tilePts m d f w) :=
  (inferInstance : BI.Storable (upEmb : UEmb _ 𝕄)
    iprop((xLoc d ↦{piece fullShare w} m (xLoc d)) ∗ (oLoc d ↦[rowSet w]{fullShare} f)))

/-- The whole result of the call on the operand the launch memory holds. -/
abbrev callRes (d : Dev nD) : Buf (Elt F) (oLoc d) := res (F := F) (m (xLoc d))

/-- The call takes and brings, per SparseCore and tile, the tile's piece and row: the row as launched, then as the call's
    result holds it. -/
def P : (K (F := F)).Pay (nD := nD) (Val := Elt F) (Name := ℕ) (U := UU) where
  st := fun q d c => match q with
    | 0 => bigSep Finset.univ fun i : Fin ((K (F := F)).nSub 0) => tilePts m d (m (oLoc d)) (2 * i.val + c.val)
  dn := fun q d c => match q with
    | 0 => bigSep Finset.univ fun i : Fin ((K (F := F)).nSub 0) => tilePts m d (callRes m d) (2 * i.val + c.val)
  go := fun q d c i => match q with | 0 => tilePts m d (m (oLoc d)) (2 * i.val + c.val)
  td := fun q d c i => match q with | 0 => tilePts m d (callRes m d) (2 * i.val + c.val)
  x := fun _ _ => iprop(emp)

/-- What the call takes and brings may be handed over. -/
instance P_storable : (P (F := F) m).IsStorable where
  st q d c := match q with
    | 0 => (inferInstance : BI.Storable (upEmb : UEmb _ 𝕄)
      (bigSep Finset.univ fun i : Fin ((K (F := F)).nSub 0) => tilePts m d (m (oLoc d)) (2 * i.val + c.val)))
  dn q d c := match q with
    | 0 => (inferInstance : BI.Storable (upEmb : UEmb _ 𝕄)
      (bigSep Finset.univ fun i : Fin ((K (F := F)).nSub 0) => tilePts m d (callRes m d) (2 * i.val + c.val)))
  go q d c i := match q with
    | 0 => (inferInstance : BI.Storable (upEmb : UEmb _ 𝕄) (tilePts m d (m (oLoc d)) (2 * i.val + c.val)))
  td q d c i := match q with
    | 0 => (inferInstance : BI.Storable (upEmb : UEmb _ 𝕄) (tilePts m d (callRes m d) (2 * i.val + c.val)))

/-- A SparseCore's start is its tiles' starts, its end its tiles' ends. -/
theorem vecSplit : (K (F := F)).VecSplit' (P m) 0 := by
  intro d c
  show (bigSep Finset.univ fun i : Fin ((K (F := F)).nSub 0) => tilePts m d (m (oLoc d)) (2 * i.val + c.val))
    ⊢ |={Set.univ}=> iprop((bigSep Finset.univ fun i : Fin ((K (F := F)).nSub 0) => tilePts m d (m (oLoc d)) (2 * i.val + c.val))
      ∗ ((bigSep Finset.univ fun i : Fin ((K (F := F)).nSub 0) => tilePts m d (callRes m d) (2 * i.val + c.val))
        -∗ (bigSep Finset.univ fun i : Fin ((K (F := F)).nSub 0) => tilePts m d (callRes m d) (2 * i.val + c.val))))
  iintro H; imodintro
  isplitl [H]; · iexact H
  iintro H; iexact H

/-! ## The obligation of a tile -/

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The kernel's entry in the body table is the kernel at the tile's coordinates. -/
theorem defs₀_vector (c : Fin τ.nSC) (s : Fin τ.nSub) :
    defs₀ (F := F) (.scVector c s) 0 ()
      = SparseCore.onTile hcore0 hsub0 (fun c s => cc0_kmax (coordsV c s)
          xV (Memref.isWhole_whole _) oV (Memref.isWhole_whole _) aV (Memref.isWhole_whole _) bV (Memref.isWhole_whole _)
          rV (Memref.isWhole_whole _) cc0_scratch3 cc0_scratch4 cc0_scoped0) ⟨⟩ c s := rfl

/-- Waits only for its own transfers are waits only for its own transfers or the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (m (xLoc d)) (m (oLoc d)) _ O W hO).trans (wp_mono frame _ _ fun _ => obl_post)

/-! ## The launch element of the ghost state -/

def u₀ : UU := (initOf (K (F := F)).hsCells (K (F := F)).hsToks, 1)

/-- The launch's ghost state is the handshakes' and the counters'. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [show (bigSep Finset.univ fun _ : Dev nD => iprop(emp)) = (iprop(emp) : sProp 𝕄) from bigSep_emp_const _]
    iempintro
  rw [show (bigSep Finset.univ fun thr : Thread nD τ => bigSep Finset.univ fun q : Fin 1 => (P (F := F) m).x q thr)
      = (bigSep Finset.univ fun _ : Thread nD τ => iprop(emp)) from
    bigSep_congr fun _ _ => bigSep_univ_of_subsingleton (0 : Fin 1), show (bigSep Finset.univ fun _ : Thread nD τ => iprop(emp)) = (iprop(emp) : sProp 𝕄) from bigSep_emp_const _]
  iempintro

/-! ## The tiles together -/

/-- Tile numbers by SparseCore and subcore are the numbers below thirty-two. -/
theorem bigSep_tiles (Φ : ℕ → sProp 𝕄) :
    (bigSep Finset.univ fun c : Fin 2 => bigSep Finset.univ fun i : Fin 16 => Φ (2 * i.val + c.val)) = bigSep (Finset.range 32) Φ := by
  rw [← bigSep_univ_prod (fun p : Fin 2 × Fin 16 => Φ (2 * p.2.val + p.1.val))]
  have e : (Finset.range 32) = (Finset.univ : Finset (Fin 2 × Fin 16)).map ⟨fun p => 2 * p.2.val + p.1.val, fun a b h => by
      have h' : 2 * a.2.val + a.1.val = 2 * b.2.val + b.1.val := h
      have ha := a.1.isLt
      have hb := b.1.isLt
      exact Prod.ext (Fin.ext (by omega)) (Fin.ext (by omega))⟩ := by decide
  rw [e, bigSep_map]
  rfl

/-- The operand and a result whole are the tiles' pieces and rows, and what is left of the operand. -/
theorem tiles_whole (d : Dev nD) (f : Buf (Elt F) (oLoc d)) :
    iprop((xLoc d ↦{fullShare} m (xLoc d)) ∗ (oLoc d ↦{fullShare} f))
      = iprop((bigSep Finset.univ fun c : Fin 2 => bigSep Finset.univ fun i : Fin 16 => tilePts m d f (2 * i.val + c.val))
        ∗ (xLoc d ↦{rest fullShare 32} m (xLoc d))) := by
  rw [bigSep_tiles (tilePts m d f)]
  unfold tilePts
  rw [bigSep_sep', ← rows_whole, pointsTo_pieces Finset.univ (m (xLoc d)) fullShare 32]
  exact sep_swap' _ _ _

/-! ## The host -/

abbrev xR : DevRef τ sig := Proc.devRef .tc (main_arg0 : Ref sig .tc)
/-- The call's result. -/
abbrev oR : DevRef τ sig := Proc.devRef .tc (main_v0 : Ref sig .tc)
/-- The call's result cut into ranks and columns. -/
abbrev r1 : DevRef τ sig := Proc.devRef .tc (main_v1 : Ref sig .tc)
/-- The same with the rank last. -/
abbrev r2 : DevRef τ sig := Proc.devRef .tc (main_v2 : Ref sig .tc)
/-- The program's result. -/
abbrev r3 : DevRef τ sig := Proc.devRef .tc (main_v3 : Ref sig .tc)

/-- The three rearrangements. -/
abbrev op1 : HloOp τ sig (Elt F) := StableHlo.reshape main_v0 main_v1 (rfl : (.f32 : EltTy) = .f32) shapeCasts_S32x1024_S4x8x8x128
/-- The second rearrangement: the rank goes last. -/
abbrev op2 : HloOp τ sig (Elt F) := StableHlo.unary main_v1 main_v2 ((transpose S4x8x128x8 [0, 1, 3, 2] · transposes_S4x8x8x128_S4x8x128x8_0_1_3_2) : (⟨S4x8x8x128, .f32⟩ : BufTy).Contents (Elt F) → (⟨S4x8x128x8, .f32⟩ : BufTy).Contents (Elt F))
/-- The third rearrangement: one row per batch. -/
abbrev op3 : HloOp τ sig (Elt F) := StableHlo.reshape main_v2 main_v3 (rfl : (.f32 : EltTy) = .f32) shapeCasts_S4x8x128x8_S4x8192

/-- The program's result on an operand. -/
def out (X : Vec F S4x8192x1024 .f32) : Vec F S4x8192 .f32 :=
  shapeCast S4x8192 (transpose S4x8x128x8 [0, 1, 3, 2] (shapeCast S4x8x8x128 (res X) shapeCasts_S32x1024_S4x8x8x128)
    transposes_S4x8x8x128_S4x8x128x8_0_1_3_2) shapeCasts_S4x8x128x8_S4x8192

/-- The arrays the host knows. -/
abbrev S5 : Finset (DevRef τ sig) := {xR, oR, r1, r2, r3}

/-- The arrays at a valuation, one by one. -/
theorem held_S5 (d : Dev nD) (V : Valuation τ sig (Elt F)) :
    (held (SparseCore.T d) S5 V : sProp 𝕄) = iprop((xLoc d ↦{fullShare} V xR) ∗ (oLoc d ↦{fullShare} V oR)
      ∗ ((SparseCore.T d).loc main_v1 ↦{fullShare} V r1) ∗ ((SparseCore.T d).loc main_v2 ↦{fullShare} V r2)
      ∗ ((SparseCore.T d).loc main_v3 ↦{fullShare} V r3)) := by
  unfold held S5
  rw [SparseCore.bigSep_insert' (by decide), SparseCore.bigSep_insert' (by decide), SparseCore.bigSep_insert' (by decide),
    SparseCore.bigSep_insert' (by decide), bigSep_singleton]

/-- The host's arrays, one by one. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0)
      ∗ ((SparseCore.T d).loc main_v1 ↦{fullShare} W main_v1) ∗ ((SparseCore.T d).loc main_v2 ↦{fullShare} W main_v2)
      ∗ ((SparseCore.T d).loc main_v3 ↦{fullShare} W main_v3)) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide),
    SparseCore.bigSep_insert' (by decide), bigSep_singleton]

/-- The arrays after the call. -/
def V1 (d : Dev nD) : Valuation τ sig (Elt F) := Function.update (fun b => m (d, b)) oR (callRes m d)

/-- The arrays at the end. -/
def V4 (d : Dev nD) : Valuation τ sig (Elt F) := (op3 (F := F)).result ((op2 (F := F)).result ((op1 (F := F)).result (V1 m d)))

/-- The call changes nothing but its result. -/
theorem V1_of_ne (d : Dev nD) {b : DevRef τ sig} (h : b ≠ oR) : V1 m d b = m (d, b) := Function.update_of_ne h _ _
/-- The call's result after the call. -/
theorem V1_oR (d : Dev nD) : V1 m d oR = callRes m d := Function.update_self _ _ _

/-- The operand is at the end what it was. -/
theorem V4_xR (d : Dev nD) : V4 m d xR = m (xLoc d) := by
  unfold V4
  rw [StableHlo.reshape_result_ne _ _ _ _ _ _ _ (show (main_arg0 : Ref sig .tc) ≠ main_v3 by decide),
    StableHlo.unary_result_ne _ _ _ _ _ _ (show (main_arg0 : Ref sig .tc) ≠ main_v2 by decide),
    StableHlo.reshape_result_ne _ _ _ _ _ _ _ (show (main_arg0 : Ref sig .tc) ≠ main_v1 by decide)]
  exact V1_of_ne m d (by decide)

/-- The result is at the end `out` of the operand. -/
theorem V4_r3 (d : Dev nD) : V4 m d r3 = out (F := F) (m (xLoc d)) := by
  unfold V4
  rw [StableHlo.reshape_result, StableHlo.unary_result, StableHlo.reshape_result, V1_oR]
  rfl

/-- The first rearrangement touches only arrays the host knows. -/
theorem op1_bufs : (op1 (F := F)).bufs ⊆ S5 := (show ({oR, r1} : Finset (DevRef τ sig)) ⊆ S5 by decide)
/-- So does the second. -/
theorem op2_bufs : (op2 (F := F)).bufs ⊆ S5 := (show ({r1, r2} : Finset (DevRef τ sig)) ⊆ S5 by decide)
/-- So does the third. -/
theorem op3_bufs : (op3 (F := F)).bufs ⊆ S5 := (show ({r2, r3} : Finset (DevRef τ sig)) ⊆ S5 by decide)

/-- What @main leaves the claims: the operand as it was, the result `out` of it. -/
abbrev FIN (d : Dev nD) : sProp 𝕄 :=
  iprop((xLoc d ↦{fullShare} m (xLoc d)) ∗ ((SparseCore.T d).loc main_v3 ↦{fullShare} out (F := F) (m (xLoc d))))

/-- What the call takes in all is the tiles' pieces, the rows as launched. -/
theorem st0_eq (d : Dev nD) : (bigSep Finset.univ fun c : Fin ((K (F := F)).nCore 0) => (P m).st 0 d c)
    = bigSep Finset.univ fun c : Fin 2 => bigSep Finset.univ fun i : Fin 16 => tilePts m d (m (oLoc d)) (2 * i.val + c.val) := rfl
/-- What the call brings in all is the tiles' pieces, the rows as computed. -/
theorem dn0_eq (d : Dev nD) : (bigSep Finset.univ fun c : Fin ((K (F := F)).nCore 0) => (P m).dn 0 d c)
    = bigSep Finset.univ fun c : Fin 2 => bigSep Finset.univ fun i : Fin 16 => tilePts m d (callRes m d) (2 * i.val + c.val) := rfl

/-- @main on a device's TensorCore: the call and the three rearrangements. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho, H1, H2, H3⟩, Hts, -⟩, -⟩
  ihave Ht := (Entails.of_eq (tiles_whole m d (m (oLoc d)))) $$ [Hx Ho]
  · isplitl [Hx] <;> iassumption
  icases Ht with ⟨Ht, Hxr⟩
  iapply ((K (F := F)).wp_run (D (F := F)) 𝒱 (EH := EH) (P := P m) κ d 0) $$ [Hst Ht Hxr H1 H2 H3 Hb Hts]
  isplitr; · iexact Hctx
  isplitl [Hst]; · iexact Hst
  isplitl [Ht]
  · rw [st0_eq]; iexact Ht
  iintro ⟨Hst, Hdn⟩
  ihave Hdn' := (Entails.of_eq (dn0_eq m d)) $$ Hdn
  ihave Hxo := (Entails.of_eq (tiles_whole m d (callRes m d)).symm) $$ [Hdn' Hxr]
  · isplitl [Hdn'] <;> iassumption
  icases Hxo with ⟨Hx, Ho⟩
  iapply (wp_hlo_within 𝒱 (SparseCore.T d) none Set.univ (op := op1) (S := S5) op1_bufs (V := V1 m d)) $$ [Hb Hx Ho H1 H2 H3]
  · isplitl [Hb]; · iexact Hb
    rw [held_S5, V1_oR, V1_of_ne m d (b := xR) (by decide), V1_of_ne m d (b := r1) (by decide), V1_of_ne m d (b := r2) (by decide),
      V1_of_ne m d (b := r3) (by decide)]
    isplitl [Hx]; · iexact Hx
    isplitl [Ho]; · iexact Ho
    isplitl [H1]; · iexact H1
    isplitl [H2]; · iexact H2
    iexact H3
  iintro ⟨Hb, Hheld⟩
  rw [wp_ret]; imodintro
  iapply (wp_hlo_within 𝒱 (SparseCore.T d) none Set.univ (op := op2) (S := S5) op2_bufs (V := (op1 (F := F)).result (V1 m d))) $$ [Hb Hheld]
  · isplitl [Hb] <;> iassumption
  iintro ⟨Hb, Hheld⟩
  rw [wp_ret]; imodintro
  iapply (wp_hlo_within 𝒱 (SparseCore.T d) none Set.univ (op := op3) (S := S5) op3_bufs
    (V := (op2 (F := F)).result ((op1 (F := F)).result (V1 m d)))) $$ [Hb Hheld]
  · isplitl [Hb] <;> iassumption
  iintro ⟨Hb, Hheld⟩
  ihave Hh := (Entails.of_eq (show (held (SparseCore.T d) S5 ((op3 (F := F)).result ((op2 (F := F)).result ((op1 (F := F)).result (V1 m d)))) : sProp 𝕄) = _
    from held_S5 (F := F) d (V4 m d))) $$ Hheld
  rw [V4_xR, V4_r3]
  icases Hh with ⟨Hx, -, -, -, H3⟩
  rw [wp_ret]; imodintro; imodintro
  isplitl [Hst]; · iexact Hst
  isplitl [Hx H3]
  · isplitl [Hx] <;> iassumption
  isplitl [Hb] <;> iassumption

/-- What the claims read of a final memory. -/
def fq (d : Dev nD) (s' : Phys nD τ sig (Elt F)) : Prop :=
  s'.mem.mem (xLoc d) = m (xLoc d) ∧ s'.mem.mem ((SparseCore.T d).loc main_v3) = out (F := F) (m (xLoc d))

set_option maxRecDepth 16384 in
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := (SparseCore.T d).loc main_v3) (I := Finset.univ) (q := fullShare)
    (f := out (F := F) (m (xLoc d)))) $$ [HSI Ho]
  · isplitl [HSI] <;> iassumption
  icases H with %h2
  ipureintro; exact ⟨funext fun i => h1 i (Finset.mem_univ i), funext fun i => h2 i (Finset.mem_univ i)⟩

/-- The end: on every device the operand as it was and the result `out` of it, every semaphore at zero. -/
def QC : PUnit × MemSt nD τ sig (Elt F) → Prop := fun r =>
  (∀ c : Dev nD, r.2.mem (xLoc c) = m (xLoc c) ∧ r.2.mem ((SparseCore.T c).loc main_v3) = out (F := F) (m (xLoc c)))
    ∧ r.2.sem = fun _ => 0

/-- The program runs to that end. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Top8
-- ==== Proof.Order.lean ====
/-
  What the networks compute in a linear order, told by thresholds: which of the running eight are above a threshold
  depends only on how many of the values taken in are.
-/
module

public import proofs.«01_k».proof.Proof.Net
public import Mathlib.Data.Fintype.Card
public import Mathlib.Algebra.BigOperators.Fin
public import Mathlib.Order.Interval.Finset.Fin

@[expose] public section

namespace Cert.Top8

/-! ## Networks under a map -/

section Map

variable {α β : Type} {mx mn : α → α → α} {mx' mn' : β → β → β} {f : α → β}

/-- A map that commutes with the two operations commutes with the sort of eight. -/
theorem sort8_map (hx : ∀ a b, f (mx a b) = mx' (f a) (f b)) (hn : ∀ a b, f (mn a b) = mn' (f a) (f b)) (a : Fin 8 → α) :
    (fun i => f (sort8 mx mn a i)) = sort8 mx' mn' (fun i => f (a i)) := by
  funext i
  match i with
  | 0 | 1 | 2 | 3 | 4 | 5 | 6 | 7 => simp [sort8, hx, hn]

/-- A map that commutes with the two operations commutes with the merge. -/
theorem topOf_map (hx : ∀ a b, f (mx a b) = mx' (f a) (f b)) (hn : ∀ a b, f (mn a b) = mn' (f a) (f b)) (r v : Fin 8 → α) :
    (fun i => f (topOf mx mn r v i)) = topOf mx' mn' (fun i => f (r i)) (fun i => f (v i)) := by
  funext i
  match i with
  | 0 | 1 | 2 | 3 | 4 | 5 | 6 | 7 => simp [topOf, merge8, hx, hn]

end Map

/-! ## The networks over the two truth values -/

/-- How many of eight truth values are true. -/
def trues (a : Fin 8 → Bool) : ℕ :=
  (a 0).toNat + (a 1).toNat + (a 2).toNat + (a 3).toNat + (a 4).toNat + (a 5).toNat + (a 6).toNat + (a 7).toNat

/-- At most eight of eight are true. -/
theorem trues_le (a : Fin 8 → Bool) : trues a ≤ 8 := by
  unfold trues
  have h : ∀ b : Bool, b.toNat ≤ 1 := by decide
  have := h (a 0); have := h (a 1); have := h (a 2); have := h (a 3)
  have := h (a 4); have := h (a 5); have := h (a 6); have := h (a 7)
  omega

/-- Eight truth values in sequence. -/
theorem sort8_bits : ∀ a0 a1 a2 a3 a4 a5 a6 a7 : Bool, ∀ i : Fin 8,
    sort8 or and ![a0, a1, a2, a3, a4, a5, a6, a7] i = decide (i.val < trues ![a0, a1, a2, a3, a4, a5, a6, a7]) := by
  decide +kernel

/-- The sort of eight truth values puts the true ones first. -/
theorem sort8_bool (a : Fin 8 → Bool) (i : Fin 8) : sort8 or and a i = decide (i.val < trues a) := by
  have e : a = ![a 0, a 1, a 2, a 3, a 4, a 5, a 6, a 7] := by
    funext i
    match i with
    | 0 | 1 | 2 | 3 | 4 | 5 | 6 | 7 => rfl
  rw [e]
  exact sort8_bits _ _ _ _ _ _ _ _ i

/-- The merge of `p` and `c` leading true values is `p + c` leading true values. -/
theorem topOf_bits : ∀ p c : Fin 9, ∀ i : Fin 8,
    topOf or and (fun j : Fin 8 => decide (j.val < p.val)) (fun j : Fin 8 => decide (j.val < c.val)) i
      = decide (i.val < p.val + c.val) := by
  decide +kernel

/-- The same for any number of leading true values of the running eight. -/
theorem topOf_bool (p : ℕ) (c : ℕ) (hc : c ≤ 8) (i : Fin 8) :
    topOf or and (fun j : Fin 8 => decide (j.val < p)) (fun j : Fin 8 => decide (j.val < c)) i = decide (i.val < p + c) := by
  have e : (fun j : Fin 8 => decide (j.val < p)) = fun j : Fin 8 => decide (j.val < (⟨min p 8, by omega⟩ : Fin 9).val) := by
    funext j
    have := j.isLt
    exact decide_eq_decide.mpr (by show j.val < p ↔ j.val < min p 8; omega)
  rw [e, topOf_bits ⟨min p 8, by omega⟩ ⟨c, by omega⟩ i]
  have := i.isLt
  exact decide_eq_decide.mpr (by show i.val < min p 8 + c ↔ i.val < p + c; omega)

/-! ## One more block -/

/-- If as many of a running eight are above a threshold as lead it, and a block is sorted and merged in, the same holds
    with the block's values counted in. -/
theorem step_bool {α : Type} {mx mn : α → α → α} {f : α → Bool} (hx : ∀ a b, f (mx a b) = (f a || f b))
    (hn : ∀ a b, f (mn a b) = (f a && f b)) (r b : Fin 8 → α) (p : ℕ) (hr : ∀ i : Fin 8, f (r i) = decide (i.val < p))
    (i : Fin 8) : f (topOf mx mn r (sort8 mx mn b) i) = decide (i.val < p + trues (fun j => f (b j))) := by
  refine (congrFun (topOf_map (mx' := or) (mn' := and) hx hn r (sort8 mx mn b)) i).trans ?_
  rw [sort8_map (mx' := or) (mn' := and) hx hn b, show (fun i => f (r i)) = fun j : Fin 8 => decide (j.val < p) from funext hr,
    show (sort8 or and fun i => f (b i)) = fun j : Fin 8 => decide (j.val < trues fun i => f (b i)) from funext (sort8_bool _)]
  exact topOf_bool p _ (trues_le _) i

/-! ## A falling sequence -/

/-- In a falling arrangement of `x`, entry `r` is above a threshold exactly if more than `r` of the values are. -/
theorem lt_sorted_iff {α : Type} [LinearOrder α] {n : ℕ} (x : Fin n → α) (π : Fin n → Fin n) (hπ : Function.Injective π)
    (hfall : ∀ i j, i < j → x (π j) ≤ x (π i)) (t : α) (r : Fin n) :
    t < x (π r) ↔ r.val < (Finset.univ.filter fun k => t < x k).card := by
  have hb : Function.Bijective π := Finite.injective_iff_bijective.mp hπ
  have hcard : (Finset.univ.filter fun k => t < x k).card = (Finset.univ.filter fun k => t < x (π k)).card := by
    refine (Finset.card_bij (fun k _ => π k) ?_ (fun a _ b _ h => hπ h) ?_).symm
    · intro k hk
      exact Finset.mem_filter.mpr ⟨Finset.mem_univ _, (Finset.mem_filter.mp hk).2⟩
    · intro k hk
      obtain ⟨k', rfl⟩ := hb.2 k
      exact ⟨k', Finset.mem_filter.mpr ⟨Finset.mem_univ _, (Finset.mem_filter.mp hk).2⟩, rfl⟩
  have hle : ∀ i j, i ≤ j → x (π j) ≤ x (π i) := fun i j h =>
    (lt_or_eq_of_le h).elim (hfall i j) (fun e => e ▸ le_refl _)
  rw [hcard]
  constructor
  · intro h
    have hs : Finset.Iic r ⊆ Finset.univ.filter fun k => t < x (π k) := fun k hk =>
      Finset.mem_filter.mpr ⟨Finset.mem_univ _, lt_of_lt_of_le h (hle k r (Finset.mem_Iic.mp hk))⟩
    have := Finset.card_le_card hs
    rw [Fin.card_Iic] at this
    omega
  · intro h
    by_contra hn
    have hs : (Finset.univ.filter fun k => t < x (π k)) ⊆ Finset.Iio r := fun k hk =>
      Finset.mem_Iio.mpr (lt_of_not_ge fun hk' => hn (lt_of_lt_of_le (Finset.mem_filter.mp hk).2 (hle r k hk')))
    have := Finset.card_le_card hs
    rw [Fin.card_Iio] at this
    omega

end Cert.Top8
-- ==== Proof.Value.lean ====
/-
  The result read by thresholds, over the extended reals: how far down the eight a threshold is exceeded is how many of
  the column's values exceed it, for the kernel's result and for the reference's; so the two results are equal.
-/
module

public import proofs.«01_k».proof.Proof.Launch
public import proofs.«01_k».proof.Proof.Order
public import proofs.«01_k».proof.Proof.Gen.ReferenceIdeal
public import Idealize.ShloMosaic.Lib.SortFacts
public import Idealize.ShloMosaic.Lib.Pipeline.Value

@[expose] public section

noncomputable section

namespace Cert.Top8

open Cert.KernelIdeal Cert.KernelIdeal.Gen
open Idealize.ShloMosaic

/-- How many of the first `n` values of a column, window `w` and column `z` of it, are above `t`. -/
def above (X : Vec Ideal S4x8192x1024 .f32) (w z : ℕ) (t : EReal) (n : ℕ) : ℕ :=
  ∑ k ∈ Finset.range n, (decide (t < (X (pos w k z) : EReal))).toNat

/-- Eight more values of a column are one more block's row of lanes. -/
theorem above_block (X : Vec Ideal S4x8192x1024 .f32) (w : ℕ) (g : Fin 8) (l : S16.Idx) (t : EReal) (n : ℕ) :
    above X w (16 * g.val + (l 0).val) t (8 * (n + 1))
      = above X w (16 * g.val + (l 0).val) t (8 * n) + trues (fun j => decide (t < (block X w g n j l : EReal))) := by
  rw [show 8 * (n + 1) = 8 * n + 1 + 1 + 1 + 1 + 1 + 1 + 1 + 1 by omega]
  unfold above trues
  rw [Finset.sum_range_succ, Finset.sum_range_succ, Finset.sum_range_succ, Finset.sum_range_succ, Finset.sum_range_succ,
    Finset.sum_range_succ, Finset.sum_range_succ, Finset.sum_range_succ]
  simp only [Nat.add_assoc]
  rfl

/-- Rank `i` of the running eight after `n` blocks is above a threshold exactly if more than `i` of the values are. -/
theorem lt_acc (X : Vec Ideal S4x8192x1024 .f32) (w : ℕ) (g : Fin 8) (l : S16.Idx) (t : EReal) (n : ℕ) (i : Fin 8) :
    decide (t < (acc X w g n i l : EReal)) = decide (i.val < above X w (16 * g.val + (l 0).val) t (8 * n)) := by
  induction n generalizing i with
  | zero =>
    have h1 : (acc X w g 0 i l : EReal) = ⊥ := rfl
    rw [h1]
    exact (decide_eq_false not_lt_bot).trans (decide_eq_false (Nat.not_lt_zero _)).symm
  | succ n ih =>
    rw [above_block]
    exact step_bool (f := fun v : V Ideal => decide (t < (v l : EReal))) (mx := maximumf) (mn := minimumf)
      (fun a b => (decide_eq_decide.mpr lt_max_iff).trans (Bool.decide_or _ _))
      (fun a b => (decide_eq_decide.mpr lt_min_iff).trans (Bool.decide_and _ _))
      (acc X w g n) (block X w g n) _ ih i

/-- The values of a column above a threshold, counted over the column's rows. -/
theorem above_card (X : Vec Ideal S4x8192x1024 .f32) (w z : ℕ) (t : EReal) (n : ℕ) :
    above X w z t n = (Finset.univ.filter fun k : Fin n => t < (X (pos w k.val z) : EReal)).card := by
  unfold above
  rw [Finset.card_filter, ← Fin.sum_univ_eq_sum_range (fun k => (decide (t < (X (pos w k z) : EReal))).toNat)]
  refine Finset.sum_congr rfl fun k _ => ?_
  by_cases h : t < (X (pos w k.val z) : EReal)
  · rw [if_pos h, decide_eq_true h]; rfl
  · rw [if_neg h, decide_eq_false h]; rfl

/-- A position of a tile's row of the result is above a threshold exactly if more of its column's values are than its
    rank. -/
theorem lt_outRow (X : Vec Ideal S4x8192x1024 .f32) (w : ℕ) (y : S1024.Idx) (t : EReal) :
    t < (outRow X w y : EReal)
      ↔ (y 0).val / 128 < (Finset.univ.filter fun k : Fin 8192 => t < (X (pos w k.val ((y 0).val % 128)) : EReal)).card := by
  have h := decide_eq_decide.mp (lt_acc X w ⟨(y 0).val % 128 / 16, by omega⟩
    (fun a => ⟨(y 0).val % 16, by have : S16.size a = 16 := by revert a; decide
                                  omega⟩) t 1024
    ⟨(y 0).val / 128, by have : (y 0).val < 1024 := (y 0).isLt; omega⟩)
  have e : 16 * ((y 0).val % 128 / 16) + (y 0).val % 16 = (y 0).val % 128 := by omega
  refine h.trans ?_
  rw [← above_card]
  show (y 0).val / 128 < above X w (16 * ((y 0).val % 128 / 16) + (y 0).val % 16) t 8192 ↔ _
  rw [e]

/-! ## The program's result -/

/-- An element of the result's rows, by its row and position. -/
def rowIdx (p : Fin 32) (q : Fin 1024) : S32x1024.Idx := fun a => match a with | 0 => p | 1 => q
/-- An element of the rows cut into ranks and columns. -/
def cutIdx (b : Fin 4) (c r : Fin 8) (z : Fin 128) : S4x8x8x128.Idx := fun a => match a with | 0 => b | 1 => c | 2 => r | 3 => z
/-- An element of the same with the rank last. -/
def lastIdx (b : Fin 4) (c : Fin 8) (z : Fin 128) (r : Fin 8) : S4x8x128x8.Idx := fun a => match a with | 0 => b | 1 => c | 2 => z | 3 => r

/-- The program's result at `(b, e)` is position `128 (e % 8) + e / 8 % 128` of row `8 b + e / 1024`. -/
theorem out_eq {F : FTy → Type} [FloatOps F] (X : Vec F S4x8192x1024 .f32) (y : S4x8192.Idx) :
    out X y = outRow X (8 * (y 0).val + (y 1).val / 1024)
      (at1 ⟨128 * ((y 1).val % 8) + (y 1).val / 8 % 128, by omega⟩) := by
  have h0 : (y 0).val < 4 := (y 0).isLt
  have h1 : (y 1).val < 8192 := (y 1).isLt
  have hc : (y 1).val / 1024 < 8 := by omega
  have hz : (y 1).val / 8 % 128 < 128 := by omega
  have hr : (y 1).val % 8 < 8 := by omega
  unfold out
  rw [shapeCast_apply _ _ y (lastIdx ⟨(y 0).val, h0⟩ ⟨_, hc⟩ ⟨_, hz⟩ ⟨_, hr⟩) (by
      rw [Shape.rowMajor_val_four, Shape.rowMajor_val_two]
      show (((y 0).val * 8 + (y 1).val / 1024) * 128 + (y 1).val / 8 % 128) * 8 + (y 1).val % 8 = (y 0).val * 8192 + (y 1).val
      omega),
    transpose_apply (s := S4x8x8x128) (t := S4x8x128x8) [0, 1, 3, 2] _ _ (lastIdx ⟨(y 0).val, h0⟩ ⟨_, hc⟩ ⟨_, hz⟩ ⟨_, hr⟩)
      (cutIdx ⟨(y 0).val, h0⟩ ⟨_, hc⟩ ⟨_, hr⟩ ⟨_, hz⟩) (fun b : Fin 4 => match b with
      | 0 => rfl | 1 => rfl | 2 => rfl | 3 => rfl),
    shapeCast_apply _ _ _ (rowIdx ⟨8 * (y 0).val + (y 1).val / 1024, by omega⟩
        ⟨128 * ((y 1).val % 8) + (y 1).val / 8 % 128, by omega⟩) (by
      rw [Shape.rowMajor_val_four, Shape.rowMajor_val_two]
      show (8 * (y 0).val + (y 1).val / 1024) * 1024 + (128 * ((y 1).val % 8) + (y 1).val / 8 % 128)
        = (((y 0).val * 8 + (y 1).val / 1024) * 8 + (y 1).val % 8) * 128 + (y 1).val / 8 % 128
      omega)]
  rfl

/-- The program's result at `(b, e)` is above a threshold exactly if more than `e % 8` of the values of batch `b` and
    channel `e / 8` are. -/
theorem lt_out (X : Vec Ideal S4x8192x1024 .f32) (y : S4x8192.Idx) (t : EReal) :
    t < (out X y : EReal) ↔ (y 1).val % 8 < (Finset.univ.filter fun k : Fin 8192 =>
      t < (X (pos (8 * (y 0).val + (y 1).val / 1024) k.val ((y 1).val / 8 % 128)) : EReal)).card := by
  rw [out_eq, lt_outRow]
  have e1 : (128 * ((y 1).val % 8) + (y 1).val / 8 % 128) / 128 = (y 1).val % 8 := by omega
  have e2 : (128 * ((y 1).val % 8) + (y 1).val / 8 % 128) % 128 = (y 1).val / 8 % 128 := by omega
  show (128 * ((y 1).val % 8) + (y 1).val / 8 % 128) / 128 < (Finset.univ.filter fun k : Fin 8192 =>
      t < (X (pos _ k.val ((128 * ((y 1).val % 8) + (y 1).val / 8 % 128) % 128)) : EReal)).card ↔ _
  rw [e1, e2]

/-! ## The reference's result -/

/-- The reference's result on an operand. -/
def refOut (X : Vec Ideal S4x8192x1024 .f32) : Vec Ideal S4x8192 .f32 :=
  shapeCast ReferenceIdeal.S4x8192 ((Host.topK ReferenceIdeal.S4x1024x8 2 (FloatOps.cmpfTotal (F := Ideal) (φ := .f32) .gt)
    (transpose ReferenceIdeal.S4x1024x8192 [0, 2, 1] X ReferenceIdeal.Gen.transposes_S4x8192x1024_S4x1024x8192_0_2_1)
    ReferenceIdeal.Gen.sliceFits_S4x1024x8192_S4x1024x8).1) ReferenceIdeal.Gen.shapeCasts_S4x1024x8_S4x8192

/-- An element of the transposed operand, by batch, channel and row. -/
def colIdx (b : Fin 4) (c : Fin 1024) (k : Fin 8192) : ReferenceIdeal.S4x1024x8192.Idx := fun a => match a with | 0 => b | 1 => c | 2 => k
/-- An element of the reference's greatest eight, by batch, channel and rank. -/
def topIdx (b : Fin 4) (c : Fin 1024) (r : Fin 8) : ReferenceIdeal.S4x1024x8.Idx := fun a => match a with | 0 => b | 1 => c | 2 => r

/-- "Greater" over the extended reals. -/
theorem gt_iff (x y : EReal) : (FloatOps.cmpfTotal (F := Ideal) (φ := .f32) .gt x y == 1#1) = decide (y < x) := by
  show (Ideal.cmpTotal .gt x y == 1#1) = decide (y < x)
  unfold Ideal.cmpTotal Ideal.cmp
  by_cases h : y < x
  · simp [CmpDirection.ordered, h]
  · simp [CmpDirection.ordered, h]

/-- Rank `r` of the greatest eight of a channel is above a threshold exactly if more than `r` of its values are. -/
theorem lt_topK (T : Vec Ideal ReferenceIdeal.S4x1024x8192 .f32) (b : Fin 4) (c : Fin 1024) (r : Fin 8) (t : EReal) :
    t < ((Host.topK ReferenceIdeal.S4x1024x8 2 (FloatOps.cmpfTotal (F := Ideal) (φ := .f32) .gt) T
        ReferenceIdeal.Gen.sliceFits_S4x1024x8192_S4x1024x8).1 (topIdx b c r) : EReal)
      ↔ r.val < (Finset.univ.filter fun k : Fin 8192 => t < (T (colIdx b c k) : EReal)).card := by
  have hr : r.val < 8192 := by omega
  have halong : ∀ k : Fin 8192, ((colIdx b c ⟨r.val, hr⟩).along (2 : Fin 3) k : ReferenceIdeal.S4x1024x8192.Idx) = colIdx b c k := by
    intro k
    funext a
    match a with
    | 0 | 1 | 2 => rfl
  have hB := lt_sorted_iff (fun k : Fin 8192 => (T (colIdx b c k) : EReal))
    (sortedFrom fun k k' : Fin 8192 => decide ((T (colIdx b c k') : EReal) < T (colIdx b c k)))
    (sortedFrom_injective _)
    (fun i j hij => by
      have h := sortedFrom_noInversion (fun k k' : Fin 8192 => decide ((T (colIdx b c k') : EReal) < T (colIdx b c k)))
        (fun k k' : Fin 8192 => decide ((T (colIdx b c k') : EReal) < T (colIdx b c k)))
        (fun a b h => decide_eq_false (lt_asymm (of_decide_eq_true h)))
        (fun a b h => h)
        (fun a b c h1 h2 => decide_eq_false (not_lt.mpr ((not_lt.mp (of_decide_eq_false h1)).trans (not_lt.mp (of_decide_eq_false h2)))))
        i j hij
      exact not_lt.mp (of_decide_eq_false h))
    t ⟨r.val, hr⟩
  refine Iff.trans (iff_of_eq (congrArg (t < ·) ?_)) hB
  show extractStridedSlice ReferenceIdeal.S4x1024x8 (fun _ => 0) (Host.sort2 ReferenceIdeal.S4x1024x8192 2
    (fun l r => FloatOps.cmpfTotal (F := Ideal) (φ := .f32) .gt l.1 r.1) T
    (fun i => if hd : 2 < ReferenceIdeal.S4x1024x8192.rank then iotaInDim ReferenceIdeal.S4x1024x8192 32 ⟨2, hd⟩ i else 0#32)).1
    ReferenceIdeal.Gen.sliceFits_S4x1024x8192_S4x1024x8 (topIdx b c r) = _
  refine (extractStridedSlice_apply (fun _ => 0) _ _ (topIdx b c r) (colIdx b c ⟨r.val, hr⟩) (fun a : Fin 3 => match a with
    | 0 => (Nat.zero_add _).symm | 1 => (Nat.zero_add _).symm | 2 => (Nat.zero_add _).symm)).trans ?_
  unfold Host.sort2
  rw [dif_pos (show 2 < ReferenceIdeal.S4x1024x8192.rank by decide)]
  show (T ((colIdx b c ⟨r.val, hr⟩).along (2 : Fin 3) (sortedFrom (fun k k' : Fin 8192 =>
      FloatOps.cmpfTotal (F := Ideal) (φ := .f32) .gt (T ((colIdx b c ⟨r.val, hr⟩).along (2 : Fin 3) k))
        (T ((colIdx b c ⟨r.val, hr⟩).along (2 : Fin 3) k')) == 1#1) ⟨r.val, hr⟩)) : EReal) = _
  refine (congrArg T (halong _)).trans
    (congrArg (fun R : Fin 8192 → Fin 8192 → Bool => T (colIdx b c (sortedFrom R ⟨r.val, hr⟩))) (funext fun k => funext fun k' => ?_))
  exact (congrArg₂ (fun u v : EReal => FloatOps.cmpfTotal (F := Ideal) (φ := .f32) .gt u v == 1#1) (congrArg T (halong k))
    (congrArg T (halong k'))).trans (gt_iff _ _)

/-- The reference's result at `(b, e)` is above a threshold exactly if more than `e % 8` of the values of batch `b` and
    channel `e / 8` are. -/
theorem lt_refOut (X : Vec Ideal S4x8192x1024 .f32) (y : S4x8192.Idx) (t : EReal) :
    t < (refOut X y : EReal) ↔ (y 1).val % 8 < (Finset.univ.filter fun k : Fin 8192 =>
      t < (X (pos (8 * (y 0).val + (y 1).val / 1024) k.val ((y 1).val / 8 % 128)) : EReal)).card := by
  have h0 : (y 0).val < 4 := (y 0).isLt
  have h1 : (y 1).val < 8192 := (y 1).isLt
  have hc : (y 1).val / 8 < 1024 := by omega
  have hr : (y 1).val % 8 < 8 := by omega
  unfold refOut
  rw [shapeCast_apply _ _ y (topIdx ⟨(y 0).val, h0⟩ ⟨_, hc⟩ ⟨_, hr⟩) (by
      rw [Shape.rowMajor_val_three, Shape.rowMajor_val_two]
      show ((y 0).val * 1024 + (y 1).val / 8) * 8 + (y 1).val % 8 = (y 0).val * 8192 + (y 1).val
      omega), lt_topK]
  refine iff_of_eq (congrArg (fun s : Finset (Fin 8192) => (y 1).val % 8 < s.card) (Finset.filter_congr fun k _ => ?_))
  rw [transpose_apply _ _ _ _ (pos (8 * (y 0).val + (y 1).val / 1024) k.val ((y 1).val / 8 % 128)) (fun b => ?_)]
  have hk := k.isLt
  match b with
  | 0 =>
    show (8 * (y 0).val + (y 1).val / 1024) / 8 % 4 = (y 0).val
    omega
  | 1 =>
    show ((8 * (y 0).val + (y 1).val / 1024) % 8 * 128 + (y 1).val / 8 % 128) % 1024 = (y 1).val / 8
    omega
  | 2 =>
    show k.val % 8192 = k.val
    omega

/-- The program's result is the reference's. -/
theorem out_eq_refOut (X : Vec Ideal S4x8192x1024 .f32) : out X = refOut X :=
  funext fun y => eq_of_forall_lt_iff (α := EReal) fun t => (lt_out X y t).trans (lt_refOut X y t).symm

end Cert.Top8
-- ==== Proof.lean ====
/-
  The proof of `Cert.Claim`: the two programs' frames and the reference's, the idealization, and the equality of the
  program's result with the reference's over the extended reals.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- `Cert.quiescent_Kernel`: the program's run over words, which has the same text as the run over any float values. -/
theorem frame_kernel : Cert.quiescent_Kernel := fun m ρ _ =>
  (θ_run Cert.KernelIdeal.defs _ _).mono (fun _ h => ⟨fun c => (h.1 c).1, h.2⟩) (Top8.run_main (F := Bits) m ρ)

/-- `Cert.quiescent_KernelIdeal`: the same run over the extended reals. -/
theorem frame_ideal : Cert.quiescent_KernelIdeal := fun m ρ _ =>
  (θ_run Cert.KernelIdeal.defs _ _).mono (fun _ h => ⟨fun c => (h.1 c).1, h.2⟩) (Top8.run_main (F := Ideal) m ρ)

/-- `Cert.quiescent_ReferenceIdeal`: the reference's run; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (ReferenceIdeal.Value.run (F := Ideal) m ρ)

/-- `Cert.algebraic_KernelIdeal_ReferenceIdeal`: both results are the program's `out` of the operand, which is the
    reference's (`Top8.out_eq_refOut`). -/
theorem algebraic : Cert.algebraic_KernelIdeal_ReferenceIdeal := by
  intro m ρ m' ρ' _ hagree
  refine ⟨fun c => Top8.out (F := Ideal) (m ((c.tc : Thread Cert.KernelIdeal.nD Cert.KernelIdeal.τ).loc Cert.KernelIdeal.main_arg0)),
    (θ_run Cert.KernelIdeal.defs _ _).mono (fun _ h c => ⟨(h.1 c).2, (h.1 c).1⟩) (Top8.run_main (F := Ideal) m ρ),
    (θ_run Cert.ReferenceIdeal.defs _ _).mono (fun _ h c => ⟨(h c).1.trans ?_, (h c).2⟩)
      (ReferenceIdeal.Value.run (F := Ideal) m' ρ')⟩
  rw [hagree c]
  exact (Top8.out_eq_refOut _).symm

/-- The certificate's claim: the three frames, the idealization and the equality of results. -/
theorem claim : Cert.Claim := ⟨Cert.Kernel.Gen.facts, Cert.KernelIdeal.Gen.facts, Cert.ReferenceIdeal.Gen.facts,
  frame_kernel, frame_ideal, frame_reference, trivial, algebraic⟩

end Cert.Proof

end
